-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v114) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_v25) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v114) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S32768x2048 : Shape := ⟨2, ![32768, 2048]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x16x32 : Shape := ⟨4, ![1, 2048, 16, 32]⟩
abbrev S2048x512 : Shape := ⟨2, ![2048, 512]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S2 : Shape := ⟨1, ![2]⟩
abbrev S2x1 : Shape := ⟨2, ![2, 1]⟩
abbrev S2x128 : Shape := ⟨2, ![2, 128]⟩
abbrev S1x8 : Shape := ⟨2, ![1, 8]⟩
abbrev S128x8 : Shape := ⟨2, ![128, 8]⟩
abbrev S128x8x64 : Shape := ⟨3, ![128, 8, 64]⟩
abbrev S128x512 : Shape := ⟨2, ![128, 512]⟩
abbrev S1x8x64 : Shape := ⟨3, ![1, 8, 64]⟩
abbrev S1x512 : Shape := ⟨2, ![1, 512]⟩
abbrev S32768x512 : Shape := ⟨2, ![32768, 512]⟩
abbrev S512x2048 : Shape := ⟨2, ![512, 2048]⟩
abbrev S512x512 : Shape := ⟨2, ![512, 512]⟩
abbrev S4x128x128 : Shape := ⟨3, ![4, 128, 128]⟩
abbrev S256x128 : Shape := ⟨2, ![256, 128]⟩
abbrev S128x256 : Shape := ⟨2, ![128, 256]⟩
abbrev S1x128x256 : Shape := ⟨3, ![1, 128, 256]⟩
abbrev S512x128 : Shape := ⟨2, ![512, 128]⟩

abbrev nBuf : Space → Nat
  | .hbm => 144
  | .vmem => 15
  | .smem => 0
  | _ => 0

abbrev hbmTy0_0 (i : Nat) : BufTy := match i % 128 with
  | 0 => ⟨S32768x2048, .bf16⟩
  | 1 => ⟨S32, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S2048, .f32⟩
  | 10 => ⟨S2048x1, .f32⟩
  | 11 => ⟨S1x32, .f32⟩
  | 12 => ⟨S2048x32, .f32⟩
  | 13 => ⟨S2048x32, .f32⟩
  | 14 => ⟨S2048x32, .f32⟩
  | 15 => ⟨S2048x32, .f32⟩
  | 16 => ⟨S1x2048x1x32, .f32⟩
  | 17 => ⟨S1x2048x16x32, .f32⟩
  | 18 => ⟨S2048x512, .f32⟩
  | 19 => ⟨S2048x32, .f32⟩
  | 20 => ⟨S2048x32, .f32⟩
  | 21 => ⟨S2048x32, .f32⟩
  | 22 => ⟨S2048x64, .f32⟩
  | 23 => ⟨S1x2048x1x64, .f32⟩
  | 24 => ⟨S1x2048x8x64, .f32⟩
  | 25 => ⟨S2048x512, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S128, .f32⟩
  | 38 => ⟨S128x1, .f32⟩
  | 39 => ⟨S1x128, .f32⟩
  | 40 => ⟨S128x128, .f32⟩
  | 41 => ⟨S128x128, .f32⟩
  | 42 => ⟨S128x128, .f32⟩
  | 43 => ⟨S_, .f32⟩
  | 44 => ⟨S128x128, .f32⟩
  | 45 => ⟨S128x128, .i1⟩
  | 46 => ⟨S8x1x1, .f32⟩
  | 47 => ⟨S_, .f32⟩
  | 48 => ⟨S128x128, .f32⟩
  | 49 => ⟨S128x128, .f32⟩
  | 50 => ⟨S1x128x128, .f32⟩
  | 51 => ⟨S8x128x128, .f32⟩
  | 52 => ⟨S8x128x128, .f32⟩
  | 53 => ⟨S8x128x128, .f32⟩
  | 54 => ⟨S8x128x128, .f32⟩
  | 55 => ⟨S_, .f32⟩
  | 56 => ⟨S_, .f32⟩
  | 57 => ⟨S8x128x128, .i1⟩
  | 58 => ⟨S8x128x128, .f32⟩
  | 59 => ⟨S8x128x128, .f32⟩
  | 60 => ⟨S4x2x128x128, .f32⟩
  | 61 => ⟨S4x128x2x128, .f32⟩
  | 62 => ⟨S4x128x256, .f32⟩
  | 63 => ⟨S128, .i32⟩
  | 64 => ⟨S1x128, .i32⟩
  | 65 => ⟨S_, .i32⟩
  | 66 => ⟨S_, .i32⟩
  | 67 => ⟨S1x128, .i32⟩
  | 68 => ⟨S1x128, .i32⟩
  | 69 => ⟨S1x128, .i32⟩
  | 70 => ⟨S_, .i32⟩
  | 71 => ⟨S1x128, .i32⟩
  | 72 => ⟨S1x128, .i1⟩
  | 73 => ⟨S1x128, .i32⟩
  | 74 => ⟨S1x128, .i32⟩
  | 75 => ⟨S_, .i32⟩
  | 76 => ⟨S1x128, .i32⟩
  | 77 => ⟨S1x128, .i1⟩
  | 78 => ⟨S1x128, .i1⟩
  | 79 => ⟨S_, .i32⟩
  | 80 => ⟨S1x128, .i32⟩
  | 81 => ⟨S1x128, .i32⟩
  | 82 => ⟨S1x128, .i32⟩
  | 83 => ⟨S2, .i32⟩
  | 84 => ⟨S2x1, .i32⟩
  | 85 => ⟨S2x128, .i32⟩
  | 86 => ⟨S2x128, .i32⟩
  | 87 => ⟨S2x128, .i1⟩
  | 88 => ⟨S2x128, .bf16⟩
  | 89 => ⟨S1x8, .f32⟩
  | 90 => ⟨S_, .f32⟩
  | 91 => ⟨S128, .f32⟩
  | 92 => ⟨S128, .f32⟩
  | 93 => ⟨S128x1, .f32⟩
  | 94 => ⟨S128x8, .f32⟩
  | 95 => ⟨S128x8, .f32⟩
  | 96 => ⟨S128x8, .f32⟩
  | 97 => ⟨S128x8, .f32⟩
  | 98 => ⟨S128x8x64, .f32⟩
  | 99 => ⟨S128x512, .f32⟩
  | 100 => ⟨S1x8, .f32⟩
  | 101 => ⟨S_, .f32⟩
  | 102 => ⟨S128, .f32⟩
  | 103 => ⟨S128, .f32⟩
  | 104 => ⟨S128x1, .f32⟩
  | 105 => ⟨S128x8, .f32⟩
  | 106 => ⟨S128x8, .f32⟩
  | 107 => ⟨S128x8, .f32⟩
  | 108 => ⟨S128x8, .f32⟩
  | 109 => ⟨S128x8x64, .f32⟩
  | 110 => ⟨S128x512, .f32⟩
  | 111 => ⟨S_, .f32⟩
  | 112 => ⟨S8, .f32⟩
  | 113 => ⟨S8, .f32⟩
  | 114 => ⟨S8, .f32⟩
  | 115 => ⟨S1x8, .f32⟩
  | 116 => ⟨S1x8x64, .f32⟩
  | 117 => ⟨S1x512, .f32⟩
  | 118 => ⟨S128, .i32⟩
  | 119 => ⟨S_, .i32⟩
  | 120 => ⟨S_, .i32⟩
  | 121 => ⟨S128, .i32⟩
  | 122 => ⟨S128, .i32⟩
  | 123 => ⟨S128, .i32⟩
  | 124 => ⟨S_, .i32⟩
  | 125 => ⟨S128, .i32⟩
  | 126 => ⟨S128, .i1⟩
  | 127 => ⟨S128, .i32⟩
  | _ => ⟨S32768x2048, .bf16⟩

abbrev hbmTy0_1 (i : Nat) : BufTy := match i % 128 with
  | 0 => ⟨S128, .i32⟩
  | 1 => ⟨S_, .i32⟩
  | 2 => ⟨S128, .i32⟩
  | 3 => ⟨S128, .i1⟩
  | 4 => ⟨S128, .i1⟩
  | 5 => ⟨S_, .i32⟩
  | 6 => ⟨S128, .i32⟩
  | 7 => ⟨S128, .i32⟩
  | 8 => ⟨S128, .i32⟩
  | 9 => ⟨S128x1, .i32⟩
  | 10 => ⟨S1x128, .i32⟩
  | 11 => ⟨S128x128, .i32⟩
  | 12 => ⟨S128x128, .i32⟩
  | 13 => ⟨S128x128, .i1⟩
  | 14 => ⟨S128x128, .f32⟩
  | 15 => ⟨S32768x512, .bf16⟩
  | _ => ⟨S32768x2048, .bf16⟩

abbrev hbmTy (i : Nat) : BufTy := match i / 128 with
  | 0 => hbmTy0_0 i
  | 1 => hbmTy0_1 i
  | _ => ⟨S32768x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S4x128x256, .f32⟩
  | .local _ .vmem, ⟨10, _⟩ => ⟨S2x128, .bf16⟩
  | .local _ .vmem, ⟨11, _⟩ => ⟨S128x128, .f32⟩
  | .local _ .vmem, ⟨12, _⟩ => ⟨S512x512, .bf16⟩
  | .local _ .vmem, ⟨13, _⟩ => ⟨S512x512, .bf16⟩
  | .local _ .vmem, ⟨14, _⟩ => ⟨S4x128x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_1 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_cst_3 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_4 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_5 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_7 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_8 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_9 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_10 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_c : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_c_0 : Ref sig .tc := ⟨.hbm, 133, rfl⟩
abbrev main_call2_v12 : Ref sig .tc := ⟨.hbm, 134, rfl⟩
abbrev main_call2_v13 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S32768x2048 : Shape := ⟨2, ![32768, 2048]⟩
abbrev S16x2048x2048 : Shape := ⟨3, ![16, 2048, 2048]⟩
abbrev S16x2048x512 : Shape := ⟨3, ![16, 2048, 512]⟩
abbrev S16x2048x8x64 : Shape := ⟨4, ![16, 2048, 8, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x8x32 : Shape := ⟨4, ![16, 2048, 8, 32]⟩
abbrev S16x16x128x8x64 : Shape := ⟨5, ![16, 16, 128, 8, 64]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S16x8x64x64 : Shape := ⟨4, ![16, 8, 64, 64]⟩
abbrev S1x16x128x8x64 : Shape := ⟨5, ![1, 16, 128, 8, 64]⟩
abbrev S16x128x8x64 : Shape := ⟨4, ![16, 128, 8, 64]⟩
abbrev S16x8x128x128 : Shape := ⟨4, ![16, 8, 128, 128]⟩
abbrev S1x8x128x128 : Shape := ⟨4, ![1, 8, 128, 128]⟩
abbrev S16x8x64x128 : Shape := ⟨4, ![16, 8, 64, 128]⟩
abbrev S128x8 : Shape := ⟨2, ![128, 8]⟩
abbrev S1x128x8x1 : Shape := ⟨4, ![1, 128, 8, 1]⟩
abbrev S1x8x1x1 : Shape := ⟨4, ![1, 8, 1, 1]⟩
abbrev S16x2048x8 : Shape := ⟨3, ![16, 2048, 8]⟩
abbrev S16x2048x8x1 : Shape := ⟨4, ![16, 2048, 8, 1]⟩
abbrev S32768x512 : Shape := ⟨2, ![32768, 512]⟩

abbrev nBuf : Space → Nat
  | .hbm => 246
  | .vmem => 0
  | .smem => 0
  | _ => 0

abbrev hbmTy0_0 (i : Nat) : BufTy := match i % 128 with
  | 0 => ⟨S32768x2048, .bf16⟩
  | 1 => ⟨S16x2048x2048, .bf16⟩
  | 2 => ⟨S16x2048x512, .bf16⟩
  | 3 => ⟨S16x2048x512, .f32⟩
  | 4 => ⟨S16x2048x2048, .bf16⟩
  | 5 => ⟨S16x2048x512, .bf16⟩
  | 6 => ⟨S16x2048x512, .f32⟩
  | 7 => ⟨S16x2048x2048, .bf16⟩
  | 8 => ⟨S16x2048x512, .bf16⟩
  | 9 => ⟨S16x2048x512, .f32⟩
  | 10 => ⟨S16x2048x8x64, .f32⟩
  | 11 => ⟨S16x2048x8x64, .f32⟩
  | 12 => ⟨S16x2048x8x64, .f32⟩
  | 13 => ⟨S2048, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x32, .f32⟩
  | 28 => ⟨S1x2048x1x32, .f32⟩
  | 29 => ⟨S2048x32, .f32⟩
  | 30 => ⟨S1x2048x1x32, .f32⟩
  | 31 => ⟨S16x2048x8x32, .f32⟩
  | 32 => ⟨S16x2048x8x32, .f32⟩
  | 33 => ⟨S16x2048x8x32, .f32⟩
  | 34 => ⟨S16x2048x8x32, .f32⟩
  | 35 => ⟨S16x2048x8x32, .f32⟩
  | 36 => ⟨S16x2048x8x32, .f32⟩
  | 37 => ⟨S16x2048x8x32, .f32⟩
  | 38 => ⟨S16x2048x8x32, .f32⟩
  | 39 => ⟨S16x2048x8x32, .f32⟩
  | 40 => ⟨S16x2048x8x32, .f32⟩
  | 41 => ⟨S16x2048x8x32, .f32⟩
  | 42 => ⟨S16x2048x8x32, .f32⟩
  | 43 => ⟨S16x2048x8x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S2048x1, .f32⟩
  | 53 => ⟨S1x32, .f32⟩
  | 54 => ⟨S2048x32, .f32⟩
  | 55 => ⟨S2048x32, .f32⟩
  | 56 => ⟨S2048x32, .f32⟩
  | 57 => ⟨S2048x32, .f32⟩
  | 58 => ⟨S1x2048x1x32, .f32⟩
  | 59 => ⟨S2048x32, .f32⟩
  | 60 => ⟨S1x2048x1x32, .f32⟩
  | 61 => ⟨S16x2048x8x32, .f32⟩
  | 62 => ⟨S16x2048x8x32, .f32⟩
  | 63 => ⟨S16x2048x8x32, .f32⟩
  | 64 => ⟨S16x2048x8x32, .f32⟩
  | 65 => ⟨S16x2048x8x32, .f32⟩
  | 66 => ⟨S16x2048x8x32, .f32⟩
  | 67 => ⟨S16x2048x8x32, .f32⟩
  | 68 => ⟨S16x2048x8x32, .f32⟩
  | 69 => ⟨S16x2048x8x32, .f32⟩
  | 70 => ⟨S16x2048x8x32, .f32⟩
  | 71 => ⟨S16x2048x8x32, .f32⟩
  | 72 => ⟨S16x2048x8x32, .f32⟩
  | 73 => ⟨S16x2048x8x64, .f32⟩
  | 74 => ⟨S_, .f32⟩
  | 75 => ⟨S16x2048x8x64, .f32⟩
  | 76 => ⟨S16x2048x8x64, .f32⟩
  | 77 => ⟨S16x16x128x8x64, .f32⟩
  | 78 => ⟨S16x16x128x8x64, .f32⟩
  | 79 => ⟨S16x16x128x8x64, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S128, .f32⟩
  | 92 => ⟨S128x1, .f32⟩
  | 93 => ⟨S1x128, .f32⟩
  | 94 => ⟨S128x128, .f32⟩
  | 95 => ⟨S128x128, .f32⟩
  | 96 => ⟨S128x128, .f32⟩
  | 97 => ⟨S_, .f32⟩
  | 98 => ⟨S128x128, .f32⟩
  | 99 => ⟨S128x128, .i1⟩
  | 100 => ⟨S8x1x1, .f32⟩
  | 101 => ⟨S_, .f32⟩
  | 102 => ⟨S128x128, .f32⟩
  | 103 => ⟨S128x128, .f32⟩
  | 104 => ⟨S1x128x128, .f32⟩
  | 105 => ⟨S8x128x128, .f32⟩
  | 106 => ⟨S8x128x128, .f32⟩
  | 107 => ⟨S8x128x128, .f32⟩
  | 108 => ⟨S8x128x128, .f32⟩
  | 109 => ⟨S_, .f32⟩
  | 110 => ⟨S_, .f32⟩
  | 111 => ⟨S8x128x128, .i1⟩
  | 112 => ⟨S8x128x128, .f32⟩
  | 113 => ⟨S8x128x128, .f32⟩
  | 114 => ⟨S8x1, .f32⟩
  | 115 => ⟨S_, .f32⟩
  | 116 => ⟨S128, .f32⟩
  | 117 => ⟨S128, .f32⟩
  | 118 => ⟨S1x128, .f32⟩
  | 119 => ⟨S8x128, .f32⟩
  | 120 => ⟨S8x128, .f32⟩
  | 121 => ⟨S8x128, .f32⟩
  | 122 => ⟨S8x128, .f32⟩
  | 123 => ⟨S8x1, .f32⟩
  | 124 => ⟨S_, .f32⟩
  | 125 => ⟨S128, .f32⟩
  | 126 => ⟨S128, .f32⟩
  | 127 => ⟨S1x128, .f32⟩
  | _ => ⟨S32768x2048, .bf16⟩

abbrev hbmTy0_1 (i : Nat) : BufTy := match i % 128 with
  | 0 => ⟨S8x128, .f32⟩
  | 1 => ⟨S8x128, .f32⟩
  | 2 => ⟨S8x128, .f32⟩
  | 3 => ⟨S8x128, .f32⟩
  | 4 => ⟨S_, .f32⟩
  | 5 => ⟨S8, .f32⟩
  | 6 => ⟨S8, .f32⟩
  | 7 => ⟨S8, .f32⟩
  | 8 => ⟨S8x1x1, .f32⟩
  | 9 => ⟨S_, .f32⟩
  | 10 => ⟨S16x8x64x64, .f32⟩
  | 11 => ⟨S16x16x128x8x64, .f32⟩
  | 12 => ⟨S16x16x128x8x64, .f32⟩
  | 13 => ⟨S16x16x128x8x64, .f32⟩
  | 14 => ⟨S_, .f32⟩
  | 15 => ⟨S16x16x128x8x64, .f32⟩
  | 16 => ⟨S_, .i32⟩
  | 17 => ⟨S16x16x128x8x64, .f32⟩
  | 18 => ⟨S16x16x128x8x64, .f32⟩
  | 19 => ⟨S16x16x128x8x64, .f32⟩
  | 20 => ⟨S8x128x128, .f32⟩
  | 21 => ⟨S8x128, .f32⟩
  | 22 => ⟨S8x128, .f32⟩
  | 23 => ⟨S8x1x1, .f32⟩
  | 24 => ⟨S_, .i32⟩
  | 25 => ⟨S16x8x64x64, .f32⟩
  | 26 => ⟨S16x16x128x8x64, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S1x16x128x8x64, .f32⟩
  | 34 => ⟨S16x128x8x64, .f32⟩
  | 35 => ⟨S_, .i32⟩
  | 36 => ⟨S_, .i32⟩
  | 37 => ⟨S_, .i32⟩
  | 38 => ⟨S_, .i32⟩
  | 39 => ⟨S1x16x128x8x64, .f32⟩
  | 40 => ⟨S16x128x8x64, .f32⟩
  | 41 => ⟨S_, .i32⟩
  | 42 => ⟨S_, .i32⟩
  | 43 => ⟨S_, .i32⟩
  | 44 => ⟨S_, .i32⟩
  | 45 => ⟨S1x16x128x8x64, .f32⟩
  | 46 => ⟨S16x128x8x64, .f32⟩
  | 47 => ⟨S16x8x128x128, .f32⟩
  | 48 => ⟨S1x8x128x128, .f32⟩
  | 49 => ⟨S16x8x128x128, .f32⟩
  | 50 => ⟨S16x8x128x128, .f32⟩
  | 51 => ⟨S16x8x64x128, .f32⟩
  | 52 => ⟨S16x128x8x64, .f32⟩
  | 53 => ⟨S128x8, .f32⟩
  | 54 => ⟨S1x128x8x1, .f32⟩
  | 55 => ⟨S16x128x8x64, .f32⟩
  | 56 => ⟨S16x128x8x64, .f32⟩
  | 57 => ⟨S16x8x64x128, .f32⟩
  | 58 => ⟨S16x128x8x64, .f32⟩
  | 59 => ⟨S128x8, .f32⟩
  | 60 => ⟨S1x128x8x1, .f32⟩
  | 61 => ⟨S16x128x8x64, .f32⟩
  | 62 => ⟨S16x128x8x64, .f32⟩
  | 63 => ⟨S16x8x64x64, .f32⟩
  | 64 => ⟨S1x8x1x1, .f32⟩
  | 65 => ⟨S16x8x64x64, .f32⟩
  | 66 => ⟨S16x8x64x64, .f32⟩
  | 67 => ⟨S16x8x64x64, .f32⟩
  | 68 => ⟨S16x128x8x64, .f32⟩
  | 69 => ⟨S1x16x128x8x64, .f32⟩
  | 70 => ⟨S_, .i32⟩
  | 71 => ⟨S_, .i32⟩
  | 72 => ⟨S_, .i32⟩
  | 73 => ⟨S_, .i32⟩
  | 74 => ⟨S16x16x128x8x64, .f32⟩
  | 75 => ⟨S_, .i32⟩
  | 76 => ⟨S_, .i32⟩
  | 77 => ⟨S16x16x128x8x64, .f32⟩
  | 78 => ⟨S16x2048x8x64, .f32⟩
  | 79 => ⟨S_, .f32⟩
  | 80 => ⟨S16x2048x8, .f32⟩
  | 81 => ⟨S16x2048x8x1, .f32⟩
  | 82 => ⟨S_, .f32⟩
  | 83 => ⟨S16x2048x8x1, .f32⟩
  | 84 => ⟨S16x2048x8x1, .f32⟩
  | 85 => ⟨S16x2048x8x64, .f32⟩
  | 86 => ⟨S16x2048x8x64, .f32⟩
  | 87 => ⟨S16x2048x8x64, .f32⟩
  | 88 => ⟨S_, .f32⟩
  | 89 => ⟨S16x2048x8, .f32⟩
  | 90 => ⟨S16x2048x8x1, .f32⟩
  | 91 => ⟨S_, .f32⟩
  | 92 => ⟨S16x2048x8x1, .f32⟩
  | 93 => ⟨S16x2048x8x1, .f32⟩
  | 94 => ⟨S16x2048x8x64, .f32⟩
  | 95 => ⟨S16x2048x8x64, .f32⟩
  | 96 => ⟨S_, .f32⟩
  | 97 => ⟨S16x2048x8x1, .f32⟩
  | 98 => ⟨S16x2048x8x1, .f32⟩
  | 99 => ⟨S16x2048x8x1, .f32⟩
  | 100 => ⟨S16x2048x8x64, .f32⟩
  | 101 => ⟨S16x2048x8x64, .f32⟩
  | 102 => ⟨S16x2048x512, .f32⟩
  | 103 => ⟨S16x2048x2048, .bf16⟩
  | 104 => ⟨S16x2048x512, .bf16⟩
  | 105 => ⟨S16x2048x512, .f32⟩
  | 106 => ⟨S16x2048x512, .f32⟩
  | 107 => ⟨S16x2048x512, .f32⟩
  | 108 => ⟨S_, .f32⟩
  | 109 => ⟨S16x2048x512, .f32⟩
  | 110 => ⟨S16x2048x512, .f32⟩
  | 111 => ⟨S_, .f32⟩
  | 112 => ⟨S16x2048x512, .f32⟩
  | 113 => ⟨S16x2048x512, .f32⟩
  | 114 => ⟨S16x2048x512, .f32⟩
  | 115 => ⟨S16x2048x512, .f32⟩
  | 116 => ⟨S32768x512, .f32⟩
  | 117 => ⟨S32768x512, .bf16⟩
  | _ => ⟨S32768x2048, .bf16⟩

abbrev hbmTy (i : Nat) : BufTy := match i / 128 with
  | 0 => hbmTy0_0 i
  | 1 => hbmTy0_1 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_cst : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_cst_1 : Ref sig .tc := ⟨.hbm, 46, rfl⟩
abbrev main_v43 : Ref sig .tc := ⟨.hbm, 47, rfl⟩
abbrev main_v44 : Ref sig .tc := ⟨.hbm, 48, rfl⟩
abbrev main_cst_2 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_cst_3 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_cst_4 : Ref sig .tc := ⟨.hbm, 81, rfl⟩
abbrev main_v75 : Ref sig .tc := ⟨.hbm, 82, rfl⟩
abbrev main_v76 : Ref sig .tc := ⟨.hbm, 83, rfl⟩
abbrev main_cst_5 : Ref sig .tc := ⟨.hbm, 84, rfl⟩
abbrev main_v77 : Ref sig .tc := ⟨.hbm, 85, rfl⟩
abbrev main_v78 : Ref sig .tc := ⟨.hbm, 86, rfl⟩
abbrev main_cst_6 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_cst_7 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_cst_8 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_cst_9 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_v98 : Ref sig .tc := ⟨.hbm, 113, rfl⟩
abbrev main_v99 : Ref sig .tc := ⟨.hbm, 114, rfl⟩
abbrev main_cst_10 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_cst_11 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_12 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_13 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_14 : Ref sig .tc := ⟨.hbm, 142, rfl⟩
abbrev main_v123 : Ref sig .tc := ⟨.hbm, 143, rfl⟩
abbrev main_c : Ref sig .tc := ⟨.hbm, 144, rfl⟩
abbrev main_v124_0 : Ref sig .tc := ⟨.hbm, 145, rfl⟩
abbrev main_v124_1 : Ref sig .tc := ⟨.hbm, 146, rfl⟩
abbrev main_v124_2 : Ref sig .tc := ⟨.hbm, 147, rfl⟩
abbrev main_v124_3 : Ref sig .tc := ⟨.hbm, 148, rfl⟩
abbrev main_v124_4 : Ref sig .tc := ⟨.hbm, 149, rfl⟩
abbrev main_v124_5 : Ref sig .tc := ⟨.hbm, 150, rfl⟩
abbrev main_v124_6 : Ref sig .tc := ⟨.hbm, 151, rfl⟩
abbrev main_v124_7 : Ref sig .tc := ⟨.hbm, 152, rfl⟩
abbrev main_v124_8 : Ref sig .tc := ⟨.hbm, 153, rfl⟩
abbrev main_v124_9 : Ref sig .tc := ⟨.hbm, 154, rfl⟩
abbrev main_while0c_c_29 : Ref sig .tc := ⟨.hbm, 155, rfl⟩
abbrev main_while0c_v153 : Ref sig .tc := ⟨.hbm, 156, rfl⟩
abbrev main_while0b_call1_c : Ref sig .tc := ⟨.hbm, 157, rfl⟩
abbrev main_while0b_call1_c_0 : Ref sig .tc := ⟨.hbm, 158, rfl⟩
abbrev main_while0b_call1_c_1 : Ref sig .tc := ⟨.hbm, 159, rfl⟩
abbrev main_while0b_call1_c_2 : Ref sig .tc := ⟨.hbm, 160, rfl⟩
abbrev main_while0b_call1_v0 : Ref sig .tc := ⟨.hbm, 161, rfl⟩
abbrev main_while0b_v153 : Ref sig .tc := ⟨.hbm, 162, rfl⟩
abbrev main_while0b_call2_c : Ref sig .tc := ⟨.hbm, 163, rfl⟩
abbrev main_while0b_call2_c_0 : Ref sig .tc := ⟨.hbm, 164, rfl⟩
abbrev main_while0b_call2_c_1 : Ref sig .tc := ⟨.hbm, 165, rfl⟩
abbrev main_while0b_call2_c_2 : Ref sig .tc := ⟨.hbm, 166, rfl⟩
abbrev main_while0b_call2_v0 : Ref sig .tc := ⟨.hbm, 167, rfl⟩
abbrev main_while0b_v154 : Ref sig .tc := ⟨.hbm, 168, rfl⟩
abbrev main_while0b_call3_c : Ref sig .tc := ⟨.hbm, 169, rfl⟩
abbrev main_while0b_call3_c_0 : Ref sig .tc := ⟨.hbm, 170, rfl⟩
abbrev main_while0b_call3_c_1 : Ref sig .tc := ⟨.hbm, 171, rfl⟩
abbrev main_while0b_call3_c_2 : Ref sig .tc := ⟨.hbm, 172, rfl⟩
abbrev main_while0b_call3_v0 : Ref sig .tc := ⟨.hbm, 173, rfl⟩
abbrev main_while0b_v155 : Ref sig .tc := ⟨.hbm, 174, rfl⟩
abbrev main_while0b_v156 : Ref sig .tc := ⟨.hbm, 175, rfl⟩
abbrev main_while0b_v157 : Ref sig .tc := ⟨.hbm, 176, rfl⟩
abbrev main_while0b_v158 : Ref sig .tc := ⟨.hbm, 177, rfl⟩
abbrev main_while0b_v159 : Ref sig .tc := ⟨.hbm, 178, rfl⟩
abbrev main_while0b_v160 : Ref sig .tc := ⟨.hbm, 179, rfl⟩
abbrev main_while0b_v161 : Ref sig .tc := ⟨.hbm, 180, rfl⟩
abbrev main_while0b_v162 : Ref sig .tc := ⟨.hbm, 181, rfl⟩
abbrev main_while0b_v163 : Ref sig .tc := ⟨.hbm, 182, rfl⟩
abbrev main_while0b_v164 : Ref sig .tc := ⟨.hbm, 183, rfl⟩
abbrev main_while0b_v165 : Ref sig .tc := ⟨.hbm, 184, rfl⟩
abbrev main_while0b_v166 : Ref sig .tc := ⟨.hbm, 185, rfl⟩
abbrev main_while0b_v167 : Ref sig .tc := ⟨.hbm, 186, rfl⟩
abbrev main_while0b_v168 : Ref sig .tc := ⟨.hbm, 187, rfl⟩
abbrev main_while0b_v169 : Ref sig .tc := ⟨.hbm, 188, rfl⟩
abbrev main_while0b_v170 : Ref sig .tc := ⟨.hbm, 189, rfl⟩
abbrev main_while0b_v171 : Ref sig .tc := ⟨.hbm, 190, rfl⟩
abbrev main_while0b_v172 : Ref sig .tc := ⟨.hbm, 191, rfl⟩
abbrev main_while0b_v173 : Ref sig .tc := ⟨.hbm, 192, rfl⟩
abbrev main_while0b_v174 : Ref sig .tc := ⟨.hbm, 193, rfl⟩
abbrev main_while0b_v175 : Ref sig .tc := ⟨.hbm, 194, rfl⟩
abbrev main_while0b_v176 : Ref sig .tc := ⟨.hbm, 195, rfl⟩
abbrev main_while0b_v177 : Ref sig .tc := ⟨.hbm, 196, rfl⟩
abbrev main_while0b_call4_v0 : Ref sig .tc := ⟨.hbm, 197, rfl⟩
abbrev main_while0b_call4_c : Ref sig .tc := ⟨.hbm, 198, rfl⟩
abbrev main_while0b_call4_c_0 : Ref sig .tc := ⟨.hbm, 199, rfl⟩
abbrev main_while0b_call4_c_1 : Ref sig .tc := ⟨.hbm, 200, rfl⟩
abbrev main_while0b_call4_c_2 : Ref sig .tc := ⟨.hbm, 201, rfl⟩
abbrev main_while0b_v178 : Ref sig .tc := ⟨.hbm, 202, rfl⟩
abbrev main_while0b_c_29 : Ref sig .tc := ⟨.hbm, 203, rfl⟩
abbrev main_while0b_v179 : Ref sig .tc := ⟨.hbm, 204, rfl⟩
abbrev main_v125 : Ref sig .tc := ⟨.hbm, 205, rfl⟩
abbrev main_v126 : Ref sig .tc := ⟨.hbm, 206, rfl⟩
abbrev main_cst_15 : Ref sig .tc := ⟨.hbm, 207, rfl⟩
abbrev main_v127 : Ref sig .tc := ⟨.hbm, 208, rfl⟩
abbrev main_v128 : Ref sig .tc := ⟨.hbm, 209, rfl⟩
abbrev main_cst_16 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_cst_17 : Ref sig .tc := ⟨.hbm, 216, rfl⟩
abbrev main_v134 : Ref sig .tc := ⟨.hbm, 217, rfl⟩
abbrev main_v135 : Ref sig .tc := ⟨.hbm, 218, rfl⟩
abbrev main_cst_18 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_19 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_call5_v0 : Ref sig .tc := ⟨.hbm, 234, rfl⟩
abbrev main_call5_v1 : Ref sig .tc := ⟨.hbm, 235, rfl⟩
abbrev main_call5_cst : Ref sig .tc := ⟨.hbm, 236, rfl⟩
abbrev main_call5_v2 : Ref sig .tc := ⟨.hbm, 237, rfl⟩
abbrev main_call5_v3 : Ref sig .tc := ⟨.hbm, 238, rfl⟩
abbrev main_call5_cst_0 : Ref sig .tc := ⟨.hbm, 239, rfl⟩
abbrev main_call5_v4 : Ref sig .tc := ⟨.hbm, 240, rfl⟩
abbrev main_call5_v5 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S32768x1024 : Shape := ⟨2, ![32768, 1024]⟩
abbrev S2x1024 : Shape := ⟨2, ![2, 1024]⟩
abbrev S2x1024x8320 : Shape := ⟨3, ![2, 1024, 8320]⟩
abbrev S1x1024 : Shape := ⟨2, ![1, 1024]⟩
abbrev S1024 : Shape := ⟨1, ![1024]⟩
abbrev S32768x2176 : Shape := ⟨2, ![32768, 2176]⟩
abbrev S32768x2048 : Shape := ⟨2, ![32768, 2048]⟩
abbrev S32768x3072 : Shape := ⟨2, ![32768, 3072]⟩
abbrev S512x1024 : Shape := ⟨2, ![512, 1024]⟩
abbrev S1x1024x8320 : Shape := ⟨3, ![1, 1024, 8320]⟩
abbrev S512x2176 : Shape := ⟨2, ![512, 2176]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x8320, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S2x1024x8320, .bf16⟩
  | .hbm, ⟨7, _⟩ => ⟨S32768x2176, .bf16⟩
  | .hbm, ⟨8, _⟩ => ⟨S32768x2048, .bf16⟩
  | .hbm, ⟨9, _⟩ => ⟨S32768x1024, .bf16⟩
  | .hbm, ⟨10, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x8320, .bf16⟩
  | .local _ .vmem, ⟨4, _⟩ => ⟨S512x2176, .bf16⟩
  | .local _ .vmem, ⟨5, _⟩ => ⟨S512x2176, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x3072, .bf16⟩
  | .local _ .vmem, ⟨11, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x8320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S2x1024 : Shape := ⟨2, ![2, 1024]⟩
abbrev S2x1024x8320 : Shape := ⟨3, ![2, 1024, 8320]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x8320 : Shape := ⟨3, ![1, 1024, 8320]⟩
abbrev S1024x8320 : Shape := ⟨2, ![1024, 8320]⟩
abbrev S32768x8320 : Shape := ⟨2, ![32768, 8320]⟩
abbrev S32768x2176 : Shape := ⟨2, ![32768, 2176]⟩
abbrev S32768x2048 : Shape := ⟨2, ![32768, 2048]⟩
abbrev S32768x3072 : Shape := ⟨2, ![32768, 3072]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x8320, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x8320, .f32⟩
  | .hbm, ⟨22, _⟩ => ⟨S1024x8320, .f32⟩
  | .hbm, ⟨23, _⟩ => ⟨S32768x8320, .f32⟩
  | .hbm, ⟨24, _⟩ => ⟨S32768x2176, .f32⟩
  | .hbm, ⟨25, _⟩ => ⟨S32768x2176, .bf16⟩
  | .hbm, ⟨26, _⟩ => ⟨S32768x2048, .f32⟩
  | .hbm, ⟨27, _⟩ => ⟨S32768x2048, .bf16⟩
  | .hbm, ⟨28, _⟩ => ⟨S32768x1024, .f32⟩
  | .hbm, ⟨29, _⟩ => ⟨S32768x1024, .bf16⟩
  | .hbm, ⟨30, _⟩ => ⟨S32768x3072, .f32⟩
  | .hbm, ⟨31, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S32768x3072 : Shape := ⟨2, ![32768, 3072]⟩
abbrev S2x512 : Shape := ⟨2, ![2, 512]⟩
abbrev S2x512x512 : Shape := ⟨3, ![2, 512, 512]⟩
abbrev S2x512x1024 : Shape := ⟨3, ![2, 512, 1024]⟩
abbrev S2x3x1024 : Shape := ⟨3, ![2, 3, 1024]⟩
abbrev S2x1024x1024 : Shape := ⟨3, ![2, 1024, 1024]⟩
abbrev S2x1024 : Shape := ⟨2, ![2, 1024]⟩
abbrev S1x512 : Shape := ⟨2, ![1, 512]⟩
abbrev S512 : Shape := ⟨1, ![512]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S512x512 : Shape := ⟨2, ![512, 512]⟩
abbrev S512x1024 : Shape := ⟨2, ![512, 1024]⟩
abbrev S512x3072 : Shape := ⟨2, ![512, 3072]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1024x1024 : Shape := ⟨2, ![1024, 1024]⟩
abbrev S512x1 : Shape := ⟨2, ![512, 1]⟩

abbrev nBuf : Space → Nat
  | .hbm => 32
  | .vmem => 23
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S32768x3072, .bf16⟩
  | .hbm, ⟨5, _⟩ => ⟨S32768x1024, .f32⟩
  | .hbm, ⟨6, _⟩ => ⟨S2x512, .f32⟩
  | .hbm, ⟨7, _⟩ => ⟨S2x512x512, .f32⟩
  | .hbm, ⟨8, _⟩ => ⟨S2x512, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x3x1024, .f32⟩
  | .hbm, ⟨13, _⟩ => ⟨S2x1024x1024, .f32⟩
  | .hbm, ⟨14, _⟩ => ⟨S2x1024, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S2x512x512, .bf16⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S2x512x1024, .bf16⟩
  | .hbm, ⟨23, _⟩ => ⟨S2x512x1024, .bf16⟩
  | .hbm, ⟨24, _⟩ => ⟨S2x512x1024, .bf16⟩
  | .hbm, ⟨25, _⟩ => ⟨S1x3x1024, .f32⟩
  | .hbm, ⟨26, _⟩ => ⟨S3x1024, .f32⟩
  | .hbm, ⟨27, _⟩ => ⟨S2x1024x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S1x512, .f32⟩
  | .local _ .vmem, ⟨13, _⟩ => ⟨S1x512x512, .bf16⟩
  | .local _ .vmem, ⟨14, _⟩ => ⟨S1x512, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S3x1024, .f32⟩
  | .local _ .vmem, ⟨19, _⟩ => ⟨S1x1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32768x512 : Shape := ⟨2, ![32768, 512]⟩
abbrev S32768x1024 : Shape := ⟨2, ![32768, 1024]⟩
abbrev S32768x3072 : Shape := ⟨2, ![32768, 3072]⟩
abbrev S2x512 : Shape := ⟨2, ![2, 512]⟩
abbrev S2x512x512 : Shape := ⟨3, ![2, 512, 512]⟩
abbrev S2x512x1024 : Shape := ⟨3, ![2, 512, 1024]⟩
abbrev S2x3x1024 : Shape := ⟨3, ![2, 3, 1024]⟩
abbrev S2x1024x1024 : Shape := ⟨3, ![2, 1024, 1024]⟩
abbrev S2x1024 : Shape := ⟨2, ![2, 1024]⟩
abbrev S1x512 : Shape := ⟨2, ![1, 512]⟩
abbrev S512 : Shape := ⟨1, ![512]⟩
abbrev S_ : Shape := ⟨0, ![]⟩
abbrev S1x512x512 : Shape := ⟨3, ![1, 512, 512]⟩
abbrev S512x512 : Shape := ⟨2, ![512, 512]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩

abbrev nBuf : Space → Nat
  | .hbm => 153
  | .vmem => 0
  | .smem => 0
  | _ => 0

abbrev hbmTy0_0 (i : Nat) : BufTy := match i % 128 with
  | 0 => ⟨S32768x512, .bf16⟩
  | 1 => ⟨S32768x512, .bf16⟩
  | 2 => ⟨S32768x512, .bf16⟩
  | 3 => ⟨S32768x1024, .bf16⟩
  | 4 => ⟨S32768x3072, .bf16⟩
  | 5 => ⟨S32768x1024, .f32⟩
  | 6 => ⟨S2x512, .f32⟩
  | 7 => ⟨S2x512x512, .f32⟩
  | 8 => ⟨S2x512, .f32⟩
  | 9 => ⟨S2x512x1024, .f32⟩
  | 10 => ⟨S2x512x1024, .f32⟩
  | 11 => ⟨S2x512x1024, .f32⟩
  | 12 => ⟨S2x3x1024, .f32⟩
  | 13 => ⟨S2x1024x1024, .f32⟩
  | 14 => ⟨S2x1024, .f32⟩
  | 15 => ⟨S32768x512, .f32⟩
  | 16 => ⟨S32768x512, .f32⟩
  | 17 => ⟨S32768x512, .f32⟩
  | 18 => ⟨S32768x512, .bf16⟩
  | 19 => ⟨S32768x512, .f32⟩
  | 20 => ⟨S32768x512, .bf16⟩
  | 21 => ⟨S32768x512, .f32⟩
  | 22 => ⟨S32768x1024, .bf16⟩
  | 23 => ⟨S32768x1024, .f32⟩
  | 24 => ⟨S32768x1024, .bf16⟩
  | 25 => ⟨S32768x1024, .f32⟩
  | 26 => ⟨S32768x1024, .bf16⟩
  | 27 => ⟨S32768x1024, .f32⟩
  | 28 => ⟨S1x512, .f32⟩
  | 29 => ⟨S512, .f32⟩
  | 30 => ⟨S1x512, .f32⟩
  | 31 => ⟨S32768x512, .f32⟩
  | 32 => ⟨S32768x512, .f32⟩
  | 33 => ⟨S32768x512, .f32⟩
  | 34 => ⟨S32768x512, .f32⟩
  | 35 => ⟨S32768x512, .f32⟩
  | 36 => ⟨S_, .f32⟩
  | 37 => ⟨S32768x512, .f32⟩
  | 38 => ⟨S32768x512, .f32⟩
  | 39 => ⟨S32768x512, .f32⟩
  | 40 => ⟨S_, .f32⟩
  | 41 => ⟨S32768x512, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S_, .f32⟩
  | 48 => ⟨S32768x512, .f32⟩
  | 49 => ⟨S32768x512, .f32⟩
  | 50 => ⟨S32768x512, .f32⟩
  | 51 => ⟨S1x512x512, .f32⟩
  | 52 => ⟨S512x512, .f32⟩
  | 53 => ⟨S32768x512, .f32⟩
  | 54 => ⟨S1x512, .f32⟩
  | 55 => ⟨S512, .f32⟩
  | 56 => ⟨S1x512, .f32⟩
  | 57 => ⟨S32768x512, .f32⟩
  | 58 => ⟨S32768x512, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S32768x512, .f32⟩
  | 68 => ⟨S32768x512, .f32⟩
  | 69 => ⟨S32768x512, .f32⟩
  | 70 => ⟨S_, .f32⟩
  | 71 => ⟨S32768x512, .f32⟩
  | 72 => ⟨S32768x512, .f32⟩
  | 73 => ⟨S_, .f32⟩
  | 74 => ⟨S32768x512, .f32⟩
  | 75 => ⟨S32768x512, .f32⟩
  | 76 => ⟨S32768x512, .f32⟩
  | 77 => ⟨S32768x512, .f32⟩
  | 78 => ⟨S1x1x1024, .f32⟩
  | 79 => ⟨S1024, .f32⟩
  | 80 => ⟨S1x1024, .f32⟩
  | 81 => ⟨S32768x1024, .f32⟩
  | 82 => ⟨S32768x1024, .f32⟩
  | 83 => ⟨S32768x1024, .f32⟩
  | 84 => ⟨S32768x1024, .f32⟩
  | 85 => ⟨S_, .f32⟩
  | 86 => ⟨S32768x1024, .f32⟩
  | 87 => ⟨S32768x1024, .f32⟩
  | 88 => ⟨S_, .f32⟩
  | 89 => ⟨S32768x1024, .f32⟩
  | 90 => ⟨S32768x1024, .f32⟩
  | 91 => ⟨S1x512x1024, .f32⟩
  | 92 => ⟨S512x1024, .f32⟩
  | 93 => ⟨S32768x1024, .f32⟩
  | 94 => ⟨S32768x1024, .f32⟩
  | 95 => ⟨S1x1x1024, .f32⟩
  | 96 => ⟨S1024, .f32⟩
  | 97 => ⟨S1x1024, .f32⟩
  | 98 => ⟨S32768x1024, .f32⟩
  | 99 => ⟨S32768x1024, .f32⟩
  | 100 => ⟨S32768x1024, .f32⟩
  | 101 => ⟨S32768x1024, .f32⟩
  | 102 => ⟨S_, .f32⟩
  | 103 => ⟨S32768x1024, .f32⟩
  | 104 => ⟨S32768x1024, .f32⟩
  | 105 => ⟨S_, .f32⟩
  | 106 => ⟨S32768x1024, .f32⟩
  | 107 => ⟨S32768x1024, .f32⟩
  | 108 => ⟨S1x512x1024, .f32⟩
  | 109 => ⟨S512x1024, .f32⟩
  | 110 => ⟨S32768x1024, .f32⟩
  | 111 => ⟨S32768x1024, .f32⟩
  | 112 => ⟨S32768x1024, .f32⟩
  | 113 => ⟨S1x1x1024, .f32⟩
  | 114 => ⟨S1024, .f32⟩
  | 115 => ⟨S1x1024, .f32⟩
  | 116 => ⟨S32768x1024, .f32⟩
  | 117 => ⟨S32768x1024, .f32⟩
  | 118 => ⟨S32768x1024, .f32⟩
  | 119 => ⟨S32768x1024, .f32⟩
  | 120 => ⟨S_, .f32⟩
  | 121 => ⟨S32768x1024, .f32⟩
  | 122 => ⟨S32768x1024, .f32⟩
  | 123 => ⟨S_, .f32⟩
  | 124 => ⟨S32768x1024, .f32⟩
  | 125 => ⟨S32768x1024, .f32⟩
  | 126 => ⟨S1x512x1024, .f32⟩
  | 127 => ⟨S512x1024, .f32⟩
  | _ => ⟨S32768x512, .bf16⟩

abbrev hbmTy0_1 (i : Nat) : BufTy := match i % 128 with
  | 0 => ⟨S32768x1024, .f32⟩
  | 1 => ⟨S32768x1024, .f32⟩
  | 2 => ⟨S32768x1024, .f32⟩
  | 3 => ⟨S1x1024x1024, .f32⟩
  | 4 => ⟨S1024x1024, .f32⟩
  | 5 => ⟨S32768x1024, .f32⟩
  | 6 => ⟨S1x1024, .f32⟩
  | 7 => ⟨S1024, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x1024, .f32⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_5 : Ref sig .tc := ⟨.hbm, 85, rfl⟩
abbrev main_v56 : Ref sig .tc := ⟨.hbm, 86, rfl⟩
abbrev main_v57 : Ref sig .tc := ⟨.hbm, 87, rfl⟩
abbrev main_cst_6 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_7 : Ref sig .tc := ⟨.hbm, 102, rfl⟩
abbrev main_v71 : Ref sig .tc := ⟨.hbm, 103, rfl⟩
abbrev main_v72 : Ref sig .tc := ⟨.hbm, 104, rfl⟩
abbrev main_cst_8 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_9 : Ref sig .tc := ⟨.hbm, 120, rfl⟩
abbrev main_v87 : Ref sig .tc := ⟨.hbm, 121, rfl⟩
abbrev main_v88 : Ref sig .tc := ⟨.hbm, 122, rfl⟩
abbrev main_cst_10 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_11 : Ref sig .tc := ⟨.hbm, 137, rfl⟩
abbrev main_v102 : Ref sig .tc := ⟨.hbm, 138, rfl⟩
abbrev main_v103 : Ref sig .tc := ⟨.hbm, 139, rfl⟩
abbrev main_cst_12 : Ref sig .tc := ⟨.hbm, 140, rfl⟩
abbrev main_v104 : Ref sig .tc := ⟨.hbm, 141, rfl⟩
abbrev main_v105 : Ref sig .tc := ⟨.hbm, 142, rfl⟩
abbrev main_cst_13 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== Kernel4.lean ====
abbrev S32768x2176 : Shape := ⟨2, ![32768, 2176]⟩
abbrev S2x3x512 : Shape := ⟨3, ![2, 3, 512]⟩
abbrev S2x2x64 : Shape := ⟨3, ![2, 2, 64]⟩
abbrev S2x512 : Shape := ⟨2, ![2, 512]⟩
abbrev S2x64x512 : Shape := ⟨3, ![2, 64, 512]⟩
abbrev S2x8x64 : Shape := ⟨3, ![2, 8, 64]⟩
abbrev S1x3x512 : Shape := ⟨3, ![1, 3, 512]⟩
abbrev S3x512 : Shape := ⟨2, ![3, 512]⟩
abbrev S1536 : Shape := ⟨1, ![1536]⟩
abbrev S1x2x64 : Shape := ⟨3, ![1, 2, 64]⟩
abbrev S2x64 : Shape := ⟨2, ![2, 64]⟩
abbrev S128 : Shape := ⟨1, ![128]⟩
abbrev S1664 : Shape := ⟨1, ![1664]⟩
abbrev S1x1664 : Shape := ⟨2, ![1, 1664]⟩
abbrev S1x512 : Shape := ⟨2, ![1, 512]⟩
abbrev S512 : Shape := ⟨1, ![512]⟩
abbrev S1x64x512 : Shape := ⟨3, ![1, 64, 512]⟩
abbrev S64x512 : Shape := ⟨2, ![64, 512]⟩
abbrev S1x8x64 : Shape := ⟨3, ![1, 8, 64]⟩
abbrev S8x64 : Shape := ⟨2, ![8, 64]⟩
abbrev S256 : Shape := ⟨1, ![256]⟩
abbrev S1x256 : Shape := ⟨2, ![1, 256]⟩
abbrev S_ : Shape := ⟨0, ![]⟩
abbrev S4 : Shape := ⟨1, ![4]⟩
abbrev S4x1 : Shape := ⟨2, ![4, 1]⟩
abbrev S4x256 : Shape := ⟨2, ![4, 256]⟩
abbrev S256x1 : Shape := ⟨2, ![256, 1]⟩
abbrev S256x256 : Shape := ⟨2, ![256, 256]⟩
abbrev S32768x512 : Shape := ⟨2, ![32768, 512]⟩
abbrev S512x2176 : Shape := ⟨2, ![512, 2176]⟩
abbrev S512x512 : Shape := ⟨2, ![512, 512]⟩
abbrev S2x256x256 : Shape := ⟨3, ![2, 256, 256]⟩
abbrev S512x1664 : Shape := ⟨2, ![512, 1664]⟩
abbrev S512x64 : Shape := ⟨2, ![512, 64]⟩
abbrev S512x256 : Shape := ⟨2, ![512, 256]⟩
abbrev S256x512 : Shape := ⟨2, ![256, 512]⟩
abbrev S64x256 : Shape := ⟨2, ![64, 256]⟩
abbrev S128x256 : Shape := ⟨2, ![128, 256]⟩
abbrev S1x256x256 : Shape := ⟨3, ![1, 256, 256]⟩

abbrev nBuf : Space → Nat
  | .hbm => 149
  | .vmem => 21
  | .smem => 0
  | _ => 0

abbrev hbmTy0_0 (i : Nat) : BufTy := match i % 128 with
  | 0 => ⟨S32768x2176, .bf16⟩
  | 1 => ⟨S2x3x512, .f32⟩
  | 2 => ⟨S2x2x64, .f32⟩
  | 3 => ⟨S2x512, .f32⟩
  | 4 => ⟨S2x64x512, .f32⟩
  | 5 => ⟨S2x512, .f32⟩
  | 6 => ⟨S2x64x512, .f32⟩
  | 7 => ⟨S2x512, .f32⟩
  | 8 => ⟨S2x512, .f32⟩
  | 9 => ⟨S2x8x64, .f32⟩
  | 10 => ⟨S2x512, .f32⟩
  | 11 => ⟨S2x512, .f32⟩
  | 12 => ⟨S1x3x512, .f32⟩
  | 13 => ⟨S3x512, .f32⟩
  | 14 => ⟨S1536, .f32⟩
  | 15 => ⟨S1x2x64, .f32⟩
  | 16 => ⟨S2x64, .f32⟩
  | 17 => ⟨S128, .f32⟩
  | 18 => ⟨S1664, .f32⟩
  | 19 => ⟨S1x1664, .f32⟩
  | 20 => ⟨S1x512, .f32⟩
  | 21 => ⟨S512, .f32⟩
  | 22 => ⟨S1x512, .f32⟩
  | 23 => ⟨S1x64x512, .f32⟩
  | 24 => ⟨S64x512, .f32⟩
  | 25 => ⟨S64x512, .bf16⟩
  | 26 => ⟨S1x512, .f32⟩
  | 27 => ⟨S512, .f32⟩
  | 28 => ⟨S1x512, .f32⟩
  | 29 => ⟨S1x64x512, .f32⟩
  | 30 => ⟨S64x512, .f32⟩
  | 31 => ⟨S64x512, .bf16⟩
  | 32 => ⟨S1x512, .f32⟩
  | 33 => ⟨S512, .f32⟩
  | 34 => ⟨S1x512, .f32⟩
  | 35 => ⟨S1x512, .f32⟩
  | 36 => ⟨S512, .f32⟩
  | 37 => ⟨S1x512, .f32⟩
  | 38 => ⟨S1x8x64, .f32⟩
  | 39 => ⟨S8x64, .f32⟩
  | 40 => ⟨S1x512, .f32⟩
  | 41 => ⟨S1x512, .f32⟩
  | 42 => ⟨S512, .f32⟩
  | 43 => ⟨S1x512, .f32⟩
  | 44 => ⟨S1x512, .f32⟩
  | 45 => ⟨S512, .f32⟩
  | 46 => ⟨S1x512, .f32⟩
  | 47 => ⟨S256, .i32⟩
  | 48 => ⟨S1x256, .i32⟩
  | 49 => ⟨S_, .i32⟩
  | 50 => ⟨S_, .i32⟩
  | 51 => ⟨S1x256, .i32⟩
  | 52 => ⟨S1x256, .i32⟩
  | 53 => ⟨S1x256, .i32⟩
  | 54 => ⟨S_, .i32⟩
  | 55 => ⟨S1x256, .i32⟩
  | 56 => ⟨S1x256, .i1⟩
  | 57 => ⟨S1x256, .i32⟩
  | 58 => ⟨S1x256, .i32⟩
  | 59 => ⟨S_, .i32⟩
  | 60 => ⟨S1x256, .i32⟩
  | 61 => ⟨S1x256, .i1⟩
  | 62 => ⟨S1x256, .i1⟩
  | 63 => ⟨S_, .i32⟩
  | 64 => ⟨S1x256, .i32⟩
  | 65 => ⟨S1x256, .i32⟩
  | 66 => ⟨S1x256, .i32⟩
  | 67 => ⟨S4, .i32⟩
  | 68 => ⟨S4x1, .i32⟩
  | 69 => ⟨S4x256, .i32⟩
  | 70 => ⟨S4x256, .i32⟩
  | 71 => ⟨S4x256, .i1⟩
  | 72 => ⟨S4x256, .bf16⟩
  | 73 => ⟨S256, .i32⟩
  | 74 => ⟨S_, .i32⟩
  | 75 => ⟨S_, .i32⟩
  | 76 => ⟨S256, .i32⟩
  | 77 => ⟨S256, .i32⟩
  | 78 => ⟨S256, .i32⟩
  | 79 => ⟨S_, .i32⟩
  | 80 => ⟨S256, .i32⟩
  | 81 => ⟨S256, .i1⟩
  | 82 => ⟨S256, .i32⟩
  | 83 => ⟨S256, .i32⟩
  | 84 => ⟨S_, .i32⟩
  | 85 => ⟨S256, .i32⟩
  | 86 => ⟨S256, .i1⟩
  | 87 => ⟨S256, .i1⟩
  | 88 => ⟨S_, .i32⟩
  | 89 => ⟨S256, .i32⟩
  | 90 => ⟨S256, .i32⟩
  | 91 => ⟨S256, .i32⟩
  | 92 => ⟨S256x1, .i32⟩
  | 93 => ⟨S1x256, .i32⟩
  | 94 => ⟨S256x256, .i32⟩
  | 95 => ⟨S256x256, .i32⟩
  | 96 => ⟨S256x256, .i1⟩
  | 97 => ⟨S256x256, .f32⟩
  | 98 => ⟨S256, .i32⟩
  | 99 => ⟨S256x1, .i32⟩
  | 100 => ⟨S_, .i32⟩
  | 101 => ⟨S_, .i32⟩
  | 102 => ⟨S256x1, .i32⟩
  | 103 => ⟨S256x1, .i32⟩
  | 104 => ⟨S256x1, .i32⟩
  | 105 => ⟨S_, .i32⟩
  | 106 => ⟨S256x1, .i32⟩
  | 107 => ⟨S256x1, .i1⟩
  | 108 => ⟨S256x1, .i32⟩
  | 109 => ⟨S256x1, .i32⟩
  | 110 => ⟨S_, .i32⟩
  | 111 => ⟨S256x1, .i32⟩
  | 112 => ⟨S256x1, .i1⟩
  | 113 => ⟨S256x1, .i1⟩
  | 114 => ⟨S_, .i32⟩
  | 115 => ⟨S256x1, .i32⟩
  | 116 => ⟨S256x1, .i32⟩
  | 117 => ⟨S256x1, .i32⟩
  | 118 => ⟨S1x256, .i32⟩
  | 119 => ⟨S_, .i32⟩
  | 120 => ⟨S_, .i32⟩
  | 121 => ⟨S1x256, .i32⟩
  | 122 => ⟨S1x256, .i32⟩
  | 123 => ⟨S1x256, .i32⟩
  | 124 => ⟨S_, .i32⟩
  | 125 => ⟨S1x256, .i32⟩
  | 126 => ⟨S1x256, .i1⟩
  | 127 => ⟨S1x256, .i32⟩
  | _ => ⟨S32768x2176, .bf16⟩

abbrev hbmTy0_1 (i : Nat) : BufTy := match i % 128 with
  | 0 => ⟨S1x256, .i32⟩
  | 1 => ⟨S_, .i32⟩
  | 2 => ⟨S1x256, .i32⟩
  | 3 => ⟨S1x256, .i1⟩
  | 4 => ⟨S1x256, .i1⟩
  | 5 => ⟨S_, .i32⟩
  | 6 => ⟨S1x256, .i32⟩
  | 7 => ⟨S1x256, .i32⟩
  | 8 => ⟨S1x256, .i32⟩
  | 9 => ⟨S256x256, .i32⟩
  | 10 => ⟨S256x256, .i32⟩
  | 11 => ⟨S256x256, .i1⟩
  | 12 => ⟨S1x256, .i32⟩
  | 13 => ⟨S256x1, .i32⟩
  | 14 => ⟨S256x256, .i32⟩
  | 15 => ⟨S256x256, .i32⟩
  | 16 => ⟨S256x256, .i1⟩
  | 17 => ⟨S256x256, .i1⟩
  | 18 => ⟨S256x256, .bf16⟩
  | 19 => ⟨S256x256, .bf16⟩
  | 20 => ⟨S32768x512, .bf16⟩
  | _ => ⟨S32768x2176, .bf16⟩

abbrev hbmTy (i : Nat) : BufTy := match i / 128 with
  | 0 => hbmTy0_0 i
  | 1 => hbmTy0_1 i
  | _ => ⟨S32768x2176, .bf16⟩

abbrev bufTy : (tb : Table) → Fin (tcTables nBuf tb) → BufTy
  | .hbm, ⟨i, _⟩ => hbmTy i
  | .local _ .vmem, ⟨0, _⟩ => ⟨S512x2176, .bf16⟩
  | .local _ .vmem, ⟨1, _⟩ => ⟨S512x2176, .bf16⟩
  | .local _ .vmem, ⟨2, _⟩ => ⟨S1x1664, .f32⟩
  | .local _ .vmem, ⟨3, _⟩ => ⟨S1x512, .f32⟩
  | .local _ .vmem, ⟨4, _⟩ => ⟨S64x512, .bf16⟩
  | .local _ .vmem, ⟨5, _⟩ => ⟨S1x512, .f32⟩
  | .local _ .vmem, ⟨6, _⟩ => ⟨S64x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x256, .bf16⟩
  | .local _ .vmem, ⟨13, _⟩ => ⟨S256x256, .bf16⟩
  | .local _ .vmem, ⟨14, _⟩ => ⟨S4x256, .bf16⟩
  | .local _ .vmem, ⟨15, _⟩ => ⟨S256x256, .f32⟩
  | .local _ .vmem, ⟨16, _⟩ => ⟨S512x512, .bf16⟩
  | .local _ .vmem, ⟨17, _⟩ => ⟨S512x512, .bf16⟩
  | .local _ .vmem, ⟨18, _⟩ => ⟨S2x256x256, .f32⟩
  | .local _ .vmem, ⟨19, _⟩ => ⟨S1x1664, .f32⟩
  | .local _ .vmem, ⟨20, _⟩ => ⟨S512x512, .f32⟩
  | _, _ => ⟨S32768x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_0 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_c : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_c_0 : Ref sig .tc := ⟨.hbm, 88, rfl⟩
abbrev main_call1_v12 : Ref sig .tc := ⟨.hbm, 89, rfl⟩
abbrev main_call1_v13 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_1 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_c : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_0 : Ref sig .tc := ⟨.hbm, 114, rfl⟩
abbrev main_call2_v12 : Ref sig .tc := ⟨.hbm, 115, rfl⟩
abbrev main_call2_v13 : Ref sig .tc := ⟨.hbm, 116, rfl⟩
abbrev main_v54 : Ref sig .tc := ⟨.hbm, 117, rfl⟩
abbrev main_v55 : Ref sig .tc := ⟨.hbm, 118, rfl⟩
abbrev main_c_2 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_c : Ref sig .tc := ⟨.hbm, 129, rfl⟩
abbrev main_call3_v9 : Ref sig .tc := ⟨.hbm, 130, rfl⟩
abbrev main_call3_v10 : Ref sig .tc := ⟨.hbm, 131, rfl⟩
abbrev main_call3_v11 : Ref sig .tc := ⟨.hbm, 132, rfl⟩
abbrev main_call3_c_0 : Ref sig .tc := ⟨.hbm, 133, rfl⟩
abbrev main_call3_v12 : Ref sig .tc := ⟨.hbm, 134, rfl⟩
abbrev main_call3_v13 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1664 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel5.lean ====
abbrev S32768x1024 : Shape := ⟨2, ![32768, 1024]⟩
abbrev S2x1024 : Shape := ⟨2, ![2, 1024]⟩
abbrev S2x1024x8320 : Shape := ⟨3, ![2, 1024, 8320]⟩
abbrev S1x1024 : Shape := ⟨2, ![1, 1024]⟩
abbrev S1024 : Shape := ⟨1, ![1024]⟩
abbrev S32768x2176 : Shape := ⟨2, ![32768, 2176]⟩
abbrev S32768x2048 : Shape := ⟨2, ![32768, 2048]⟩
abbrev S32768x3072 : Shape := ⟨2, ![32768, 3072]⟩
abbrev S512x1024 : Shape := ⟨2, ![512, 1024]⟩
abbrev S1x1024x8320 : Shape := ⟨3, ![1, 1024, 8320]⟩
abbrev S512x2176 : Shape := ⟨2, ![512, 2176]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x1024x128 : Shape := ⟨3, ![1, 1024, 128]⟩
abbrev S1024x128 : Shape := ⟨2, ![1024, 128]⟩
abbrev S512x128 : Shape := ⟨2, ![512, 128]⟩

abbrev nBuf : Space → Nat
  | .hbm => 11
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x8320, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S2x1024x8320, .bf16⟩
  | .hbm, ⟨7, _⟩ => ⟨S32768x2176, .bf16⟩
  | .hbm, ⟨8, _⟩ => ⟨S32768x2048, .bf16⟩
  | .hbm, ⟨9, _⟩ => ⟨S32768x1024, .bf16⟩
  | .hbm, ⟨10, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x8320, .bf16⟩
  | .local _ .vmem, ⟨4, _⟩ => ⟨S512x2176, .bf16⟩
  | .local _ .vmem, ⟨5, _⟩ => ⟨S512x2176, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x3072, .bf16⟩
  | .local _ .vmem, ⟨11, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x8320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x1024 : Shape := ⟨2, ![32768, 1024]⟩
abbrev S2x1024 : Shape := ⟨2, ![2, 1024]⟩
abbrev S2x1024x8320 : Shape := ⟨3, ![2, 1024, 8320]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x8320 : Shape := ⟨3, ![1, 1024, 8320]⟩
abbrev S1024x8320 : Shape := ⟨2, ![1024, 8320]⟩
abbrev S32768x8320 : Shape := ⟨2, ![32768, 8320]⟩
abbrev S32768x2176 : Shape := ⟨2, ![32768, 2176]⟩
abbrev S32768x2048 : Shape := ⟨2, ![32768, 2048]⟩
abbrev S32768x3072 : Shape := ⟨2, ![32768, 3072]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x8320, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x8320, .f32⟩
  | .hbm, ⟨22, _⟩ => ⟨S1024x8320, .f32⟩
  | .hbm, ⟨23, _⟩ => ⟨S32768x8320, .f32⟩
  | .hbm, ⟨24, _⟩ => ⟨S32768x2176, .f32⟩
  | .hbm, ⟨25, _⟩ => ⟨S32768x2176, .bf16⟩
  | .hbm, ⟨26, _⟩ => ⟨S32768x2048, .f32⟩
  | .hbm, ⟨27, _⟩ => ⟨S32768x2048, .bf16⟩
  | .hbm, ⟨28, _⟩ => ⟨S32768x1024, .f32⟩
  | .hbm, ⟨29, _⟩ => ⟨S32768x1024, .bf16⟩
  | .hbm, ⟨30, _⟩ => ⟨S32768x3072, .f32⟩
  | .hbm, ⟨31, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel6.lean ====
abbrev S32768x512 : Shape := ⟨2, ![32768, 512]⟩
abbrev S32768x1024 : Shape := ⟨2, ![32768, 1024]⟩
abbrev S32768x3072 : Shape := ⟨2, ![32768, 3072]⟩
abbrev S2x512 : Shape := ⟨2, ![2, 512]⟩
abbrev S2x512x512 : Shape := ⟨3, ![2, 512, 512]⟩
abbrev S2x512x1024 : Shape := ⟨3, ![2, 512, 1024]⟩
abbrev S2x3x1024 : Shape := ⟨3, ![2, 3, 1024]⟩
abbrev S2x1024x1024 : Shape := ⟨3, ![2, 1024, 1024]⟩
abbrev S2x1024 : Shape := ⟨2, ![2, 1024]⟩
abbrev S1x512 : Shape := ⟨2, ![1, 512]⟩
abbrev S512 : Shape := ⟨1, ![512]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S512x512 : Shape := ⟨2, ![512, 512]⟩
abbrev S512x1024 : Shape := ⟨2, ![512, 1024]⟩
abbrev S512x3072 : Shape := ⟨2, ![512, 3072]⟩
abbrev S1x512x512 : Shape := ⟨3, ![1, 512, 512]⟩
abbrev S1x512x1024 : Shape := ⟨3, ![1, 512, 1024]⟩
abbrev S1x1024x1024 : Shape := ⟨3, ![1, 1024, 1024]⟩
abbrev S1024x1024 : Shape := ⟨2, ![1024, 1024]⟩
abbrev S512x1 : Shape := ⟨2, ![512, 1]⟩

abbrev nBuf : Space → Nat
  | .hbm => 32
  | .vmem => 23
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x1024, .bf16⟩
  | .hbm, ⟨4, _⟩ => ⟨S32768x3072, .bf16⟩
  | .hbm, ⟨5, _⟩ => ⟨S32768x1024, .f32⟩
  | .hbm, ⟨6, _⟩ => ⟨S2x512, .f32⟩
  | .hbm, ⟨7, _⟩ => ⟨S2x512x512, .f32⟩
  | .hbm, ⟨8, _⟩ => ⟨S2x512, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x3x1024, .f32⟩
  | .hbm, ⟨13, _⟩ => ⟨S2x1024x1024, .f32⟩
  | .hbm, ⟨14, _⟩ => ⟨S2x1024, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S2x512x512, .bf16⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S2x512x1024, .bf16⟩
  | .hbm, ⟨23, _⟩ => ⟨S2x512x1024, .bf16⟩
  | .hbm, ⟨24, _⟩ => ⟨S2x512x1024, .bf16⟩
  | .hbm, ⟨25, _⟩ => ⟨S1x3x1024, .f32⟩
  | .hbm, ⟨26, _⟩ => ⟨S3x1024, .f32⟩
  | .hbm, ⟨27, _⟩ => ⟨S2x1024x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S1x512, .f32⟩
  | .local _ .vmem, ⟨13, _⟩ => ⟨S1x512x512, .bf16⟩
  | .local _ .vmem, ⟨14, _⟩ => ⟨S1x512, .f32⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S3x1024, .f32⟩
  | .local _ .vmem, ⟨19, _⟩ => ⟨S1x1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S32768x512 : Shape := ⟨2, ![32768, 512]⟩
abbrev S32768x1024 : Shape := ⟨2, ![32768, 1024]⟩
abbrev S32768x3072 : Shape := ⟨2, ![32768, 3072]⟩
abbrev S2x512 : Shape := ⟨2, ![2, 512]⟩
abbrev S2x512x512 : Shape := ⟨3, ![2, 512, 512]⟩
abbrev S2x512x1024 : Shape := ⟨3, ![2, 512, 1024]⟩
abbrev S2x3x1024 : Shape := ⟨3, ![2, 3, 1024]⟩
abbrev S2x1024x1024 : Shape := ⟨3, ![2, 1024, 1024]⟩
abbrev S2x1024 : Shape := ⟨2, ![2, 1024]⟩
abbrev S1x512 : Shape := ⟨2, ![1, 512]⟩
abbrev S512 : Shape := ⟨1, ![512]⟩
abbrev S_ : Shape := ⟨0, ![]⟩
abbrev S1x512x512 : Shape := ⟨3, ![1, 512, 512]⟩
abbrev S512x512 : Shape := ⟨2, ![512, 512]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩

abbrev nBuf : Space → Nat
  | .hbm => 153
  | .vmem => 0
  | .smem => 0
  | _ => 0

abbrev hbmTy0_0 (i : Nat) : BufTy := match i % 128 with
  | 0 => ⟨S32768x512, .bf16⟩
  | 1 => ⟨S32768x512, .bf16⟩
  | 2 => ⟨S32768x512, .bf16⟩
  | 3 => ⟨S32768x1024, .bf16⟩
  | 4 => ⟨S32768x3072, .bf16⟩
  | 5 => ⟨S32768x1024, .f32⟩
  | 6 => ⟨S2x512, .f32⟩
  | 7 => ⟨S2x512x512, .f32⟩
  | 8 => ⟨S2x512, .f32⟩
  | 9 => ⟨S2x512x1024, .f32⟩
  | 10 => ⟨S2x512x1024, .f32⟩
  | 11 => ⟨S2x512x1024, .f32⟩
  | 12 => ⟨S2x3x1024, .f32⟩
  | 13 => ⟨S2x1024x1024, .f32⟩
  | 14 => ⟨S2x1024, .f32⟩
  | 15 => ⟨S32768x512, .f32⟩
  | 16 => ⟨S32768x512, .f32⟩
  | 17 => ⟨S32768x512, .f32⟩
  | 18 => ⟨S32768x512, .bf16⟩
  | 19 => ⟨S32768x512, .f32⟩
  | 20 => ⟨S32768x512, .bf16⟩
  | 21 => ⟨S32768x512, .f32⟩
  | 22 => ⟨S32768x1024, .bf16⟩
  | 23 => ⟨S32768x1024, .f32⟩
  | 24 => ⟨S32768x1024, .bf16⟩
  | 25 => ⟨S32768x1024, .f32⟩
  | 26 => ⟨S32768x1024, .bf16⟩
  | 27 => ⟨S32768x1024, .f32⟩
  | 28 => ⟨S1x512, .f32⟩
  | 29 => ⟨S512, .f32⟩
  | 30 => ⟨S1x512, .f32⟩
  | 31 => ⟨S32768x512, .f32⟩
  | 32 => ⟨S32768x512, .f32⟩
  | 33 => ⟨S32768x512, .f32⟩
  | 34 => ⟨S32768x512, .f32⟩
  | 35 => ⟨S32768x512, .f32⟩
  | 36 => ⟨S_, .f32⟩
  | 37 => ⟨S32768x512, .f32⟩
  | 38 => ⟨S32768x512, .f32⟩
  | 39 => ⟨S32768x512, .f32⟩
  | 40 => ⟨S_, .f32⟩
  | 41 => ⟨S32768x512, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S_, .f32⟩
  | 48 => ⟨S32768x512, .f32⟩
  | 49 => ⟨S32768x512, .f32⟩
  | 50 => ⟨S32768x512, .f32⟩
  | 51 => ⟨S1x512x512, .f32⟩
  | 52 => ⟨S512x512, .f32⟩
  | 53 => ⟨S32768x512, .f32⟩
  | 54 => ⟨S1x512, .f32⟩
  | 55 => ⟨S512, .f32⟩
  | 56 => ⟨S1x512, .f32⟩
  | 57 => ⟨S32768x512, .f32⟩
  | 58 => ⟨S32768x512, .f32⟩
  | 59 => ⟨S32768x512, .f32⟩
  | 60 => ⟨S32768x512, .f32⟩
  | 61 => ⟨S_, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S32768x512, .f32⟩
  | 68 => ⟨S32768x512, .f32⟩
  | 69 => ⟨S32768x512, .f32⟩
  | 70 => ⟨S_, .f32⟩
  | 71 => ⟨S32768x512, .f32⟩
  | 72 => ⟨S32768x512, .f32⟩
  | 73 => ⟨S_, .f32⟩
  | 74 => ⟨S32768x512, .f32⟩
  | 75 => ⟨S32768x512, .f32⟩
  | 76 => ⟨S32768x512, .f32⟩
  | 77 => ⟨S32768x512, .f32⟩
  | 78 => ⟨S1x1x1024, .f32⟩
  | 79 => ⟨S1024, .f32⟩
  | 80 => ⟨S1x1024, .f32⟩
  | 81 => ⟨S32768x1024, .f32⟩
  | 82 => ⟨S32768x1024, .f32⟩
  | 83 => ⟨S32768x1024, .f32⟩
  | 84 => ⟨S32768x1024, .f32⟩
  | 85 => ⟨S_, .f32⟩
  | 86 => ⟨S32768x1024, .f32⟩
  | 87 => ⟨S32768x1024, .f32⟩
  | 88 => ⟨S_, .f32⟩
  | 89 => ⟨S32768x1024, .f32⟩
  | 90 => ⟨S32768x1024, .f32⟩
  | 91 => ⟨S1x512x1024, .f32⟩
  | 92 => ⟨S512x1024, .f32⟩
  | 93 => ⟨S32768x1024, .f32⟩
  | 94 => ⟨S32768x1024, .f32⟩
  | 95 => ⟨S1x1x1024, .f32⟩
  | 96 => ⟨S1024, .f32⟩
  | 97 => ⟨S1x1024, .f32⟩
  | 98 => ⟨S32768x1024, .f32⟩
  | 99 => ⟨S32768x1024, .f32⟩
  | 100 => ⟨S32768x1024, .f32⟩
  | 101 => ⟨S32768x1024, .f32⟩
  | 102 => ⟨S_, .f32⟩
  | 103 => ⟨S32768x1024, .f32⟩
  | 104 => ⟨S32768x1024, .f32⟩
  | 105 => ⟨S_, .f32⟩
  | 106 => ⟨S32768x1024, .f32⟩
  | 107 => ⟨S32768x1024, .f32⟩
  | 108 => ⟨S1x512x1024, .f32⟩
  | 109 => ⟨S512x1024, .f32⟩
  | 110 => ⟨S32768x1024, .f32⟩
  | 111 => ⟨S32768x1024, .f32⟩
  | 112 => ⟨S32768x1024, .f32⟩
  | 113 => ⟨S1x1x1024, .f32⟩
  | 114 => ⟨S1024, .f32⟩
  | 115 => ⟨S1x1024, .f32⟩
  | 116 => ⟨S32768x1024, .f32⟩
  | 117 => ⟨S32768x1024, .f32⟩
  | 118 => ⟨S32768x1024, .f32⟩
  | 119 => ⟨S32768x1024, .f32⟩
  | 120 => ⟨S_, .f32⟩
  | 121 => ⟨S32768x1024, .f32⟩
  | 122 => ⟨S32768x1024, .f32⟩
  | 123 => ⟨S_, .f32⟩
  | 124 => ⟨S32768x1024, .f32⟩
  | 125 => ⟨S32768x1024, .f32⟩
  | 126 => ⟨S1x512x1024, .f32⟩
  | 127 => ⟨S512x1024, .f32⟩
  | _ => ⟨S32768x512, .bf16⟩

abbrev hbmTy0_1 (i : Nat) : BufTy := match i % 128 with
  | 0 => ⟨S32768x1024, .f32⟩
  | 1 => ⟨S32768x1024, .f32⟩
  | 2 => ⟨S32768x1024, .f32⟩
  | 3 => ⟨S1x1024x1024, .f32⟩
  | 4 => ⟨S1024x1024, .f32⟩
  | 5 => ⟨S32768x1024, .f32⟩
  | 6 => ⟨S1x1024, .f32⟩
  | 7 => ⟨S1024, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x1024, .f32⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_1 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_5 : Ref sig .tc := ⟨.hbm, 85, rfl⟩
abbrev main_v56 : Ref sig .tc := ⟨.hbm, 86, rfl⟩
abbrev main_v57 : Ref sig .tc := ⟨.hbm, 87, rfl⟩
abbrev main_cst_6 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_7 : Ref sig .tc := ⟨.hbm, 102, rfl⟩
abbrev main_v71 : Ref sig .tc := ⟨.hbm, 103, rfl⟩
abbrev main_v72 : Ref sig .tc := ⟨.hbm, 104, rfl⟩
abbrev main_cst_8 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_9 : Ref sig .tc := ⟨.hbm, 120, rfl⟩
abbrev main_v87 : Ref sig .tc := ⟨.hbm, 121, rfl⟩
abbrev main_v88 : Ref sig .tc := ⟨.hbm, 122, rfl⟩
abbrev main_cst_10 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_11 : Ref sig .tc := ⟨.hbm, 137, rfl⟩
abbrev main_v102 : Ref sig .tc := ⟨.hbm, 138, rfl⟩
abbrev main_v103 : Ref sig .tc := ⟨.hbm, 139, rfl⟩
abbrev main_cst_12 : Ref sig .tc := ⟨.hbm, 140, rfl⟩
abbrev main_v104 : Ref sig .tc := ⟨.hbm, 141, rfl⟩
abbrev main_v105 : Ref sig .tc := ⟨.hbm, 142, rfl⟩
abbrev main_cst_13 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== Proof.RetBody.lean ====
module
public import proofs.«01_k».proof.Proof.Gen.KernelIdeal.Value
public import Idealize.ShloMosaic.Lib.Pipeline.ValueKit
public import Idealize.ShloMosaic.Lib.Pointwise
public import Idealize.ShloMosaic.Lib.Pipeline.ReadBack
@[expose] public section

/-! The retention kernel's body, written over a chunk number `n` (of four) and a head pair `g` (of four).

The printed body spells the same six steps sixteen times, once for each chunk and head pair of a block of 512 rows.
Here each step is one definition over variable offsets, and `outsAt_A` / `outsAt_B` say that what a grid point
leaves is the composition of these definitions. -/

set_option maxRecDepth 16384
noncomputable section
namespace Cert.Ret
open Idealize.ShloMosaic Idealize.ShloMosaic.TcCoe Idealize.SL.Sem Cert.KernelIdeal Cert.KernelIdeal.Gen

/-- The 128-row, 128-lane tile of chunk `n` and head pair `g` lies inside the 512 by 512 block. -/
theorem tileFits (n g : ℕ) : S512x512.Slices ![128 * (n % 4), 128 * (g % 4)] S128x128 := by
  have h1 := Nat.mod_lt n (show 0 < 4 by decide)
  have h2 := Nat.mod_lt g (show 0 < 4 by decide)
  generalize n % 4 = a at *
  generalize g % 4 = b at *
  interval_cases a <;> interval_cases b <;> decide

/-- The 128 lanes of head pair `g` lie inside one row of 512. -/
theorem rowFits (g : ℕ) : S1x512.Slices ![0, 128 * (g % 4)] S1x128 := by
  have h2 := Nat.mod_lt g (show 0 < 4 by decide)
  generalize g % 4 = b at *
  interval_cases b <;> decide

/-- The 128 lanes of head pair `g` lie inside the 128 by 512 weight table. -/
theorem tabFits (g : ℕ) : ∀ a, (![0, 128 * (g % 4)] : Fin 2 → Nat) a + S128x128.size a ≤ S128x512.size a := by
  have h2 := Nat.mod_lt g (show 0 < 4 by decide)
  generalize g % 4 = b at *
  interval_cases b <;> decide

/-- Slab `g` lies inside the four decay masks. -/
theorem maskFits (g : ℕ) : ∀ a, (![g % 4, 0, 0] : Fin 3 → Nat) a + S1x128x256.size a ≤ S4x128x256.size a := by
  have h2 := Nat.mod_lt g (show 0 < 4 by decide)
  generalize g % 4 = b at *
  interval_cases b <;> decide

/-- Slab `g` lies inside the four carried states. -/
theorem stateFits (g : ℕ) : ∀ a, (![g % 4, 0, 0] : Fin 3 → Nat) a + S1x128x128.size a ≤ S4x128x128.size a := by
  have h2 := Nat.mod_lt g (show 0 < 4 by decide)
  generalize g % 4 = b at *
  interval_cases b <;> decide

/-- The tile of chunk `n` and head pair `g` of a block. -/
def tile (x : FVec Ideal S512x512 .f32) (n g : ℕ) : FVec Ideal S128x128 .f32 :=
  extractStridedSlice S128x128 ![128 * (n % 4), 128 * (g % 4)] x (tileFits n g)

/-- Head pair `g`'s lanes of a 128-row weight table. -/
def tab (x : Vec Ideal S128x512 .f32) (g : ℕ) : Vec Ideal S128x128 .f32 :=
  View.ld x (Rect.unit (s := S128x512) ![0, 128 * (g % 4)] S128x128.size (tabFits g))

/-- Head pair `g`'s decay mask, its two heads side by side. -/
def maskT (x : Vec Ideal S4x128x256 .f32) (g : ℕ) : FVec Ideal S128x256 .f32 :=
  shapeCast S128x256 (View.ld x (Rect.unit (s := S4x128x256) ![g % 4, 0, 0] S1x128x256.size (maskFits g)) : Vec Ideal S1x128x256 .f32) shapeCasts_S1x128x256_S128x256

/-- Head pair `g`'s carried state. -/
def stateT (x : Vec Ideal S4x128x128 .f32) (g : ℕ) : FVec Ideal S128x128 .f32 :=
  shapeCast S128x128 (View.ld x (Rect.unit (s := S4x128x128) ![g % 4, 0, 0] S1x128x128.size (stateFits g)) : Vec Ideal S1x128x128 .f32) shapeCasts_S1x128x128_S128x128

/-- Two copies of a tile one above the other, the first kept on the first head's lanes and the second on the second's. -/
def stack2 (own : FVec Ideal S2x128 .bf16) (x : FVec Ideal S128x128 .f32) : FVec Ideal S256x128 .bf16 :=
  concatenate S256x128 0 [⟨S128x128, mulf (truncf .bf16 x bitsLt_bf16_f32) (broadcastTo S128x128 (extractStridedSlice S1x128 ![0, 0] own slices_S2x128_o0_0_S1x128) broadcasts_S1x128_S128x128)⟩,
    ⟨S128x128, mulf (truncf .bf16 x bitsLt_bf16_f32) (broadcastTo S128x128 (extractStridedSlice S1x128 ![1, 0] own slices_S2x128_o1_0_S1x128) broadcasts_S1x128_S128x128)⟩] concatenates_S128x128_S128x128_S256x128_d0

/-- The decayed scores of a tile's queries against its keys, both heads side by side. -/
def scores (own : FVec Ideal S2x128 .bf16) (q k : FVec Ideal S128x128 .f32) (dm : FVec Ideal S128x256 .f32) : FVec Ideal S128x256 .f32 :=
  mulf (matmul dot_S128x128_S256x128_S128x256_1_1_0_0_n_n none (truncf .bf16 q bitsLt_bf16_f32) (stack2 own k) (constant S128x256 .f32 0x00000000#32)) dm

/-- What the scores gather from the tile's values. -/
def within (own : FVec Ideal S2x128 .bf16) (sc : FVec Ideal S128x256 .f32) (v : FVec Ideal S128x128 .f32) : FVec Ideal S128x128 .f32 :=
  matmul dot_S128x256_S256x128_S128x128_1_0_0_1_n_n none (truncf .bf16 sc bitsLt_bf16_f32) (stack2 own v) (constant S128x128 .f32 0x00000000#32)

/-- The tile's weighted keys against its values. -/
def gain (k : FVec Ideal S128x128 .f32) (kw : Vec Ideal S128x128 .f32) (v : FVec Ideal S128x128 .f32) : FVec Ideal S128x128 .f32 :=
  matmul dot_S128x128_S128x128_S128x128_0_0_1_1_n_n none (truncf .bf16 (mulf k (shapeCast S128x128 kw shapeCasts_S128x128_S128x128)) bitsLt_bf16_f32) (truncf .bf16 v bitsLt_bf16_f32) (constant S128x128 .f32 0x00000000#32)

/-- What a tile's queries gather from its own values and from the state. -/
def gather (q : FVec Ideal S128x128 .f32) (qw : Vec Ideal S128x128 .f32) (st inn : FVec Ideal S128x128 .f32) : FVec Ideal S128x128 .f32 :=
  addf inn (matmul dot_S128x128_S128x128_S128x128_1_0_0_1_n_n none (truncf .bf16 (mulf q (shapeCast S128x128 qw shapeCasts_S128x128_S128x128)) bitsLt_bf16_f32) (truncf .bf16 st bitsLt_bf16_f32) (constant S128x128 .f32 0x00000000#32))

/-- The state after a tile: decayed, plus the gain where the two lanes belong to one head. -/
def advance (cd : FVec Ideal S1x512 .f32) (own : IVec S128x128 1) (g : ℕ) (u st : FVec Ideal S128x128 .f32) : FVec Ideal S128x128 .f32 :=
  addf (mulf st (broadcastTo S128x128 (extractStridedSlice S1x128 ![0, 128 * (g % 4)] cd (rowFits g)) broadcasts_S1x128_S128x128))
    (select own u (broadcast S128x128 (Scalar.ofBits .f32 0x00000000#32 : Ideal .f32)))

/-- A state as a slab of the carried states. -/
def slab (x : FVec Ideal S128x128 .f32) : FVec Ideal S1x128x128 .f32 :=
  shapeCast S1x128x128 x shapeCasts_S128x128_S1x128x128

/-- The arrays a body works on: queries, keys, values and gate of its rows, and the tables. -/
structure Ins where
  q : FVec Ideal S512x512 .f32
  k : FVec Ideal S512x512 .f32
  v : FVec Ideal S512x512 .f32
  gate : FVec Ideal S512x512 .f32
  qw : Vec Ideal S128x512 .f32
  kw : Vec Ideal S128x512 .f32
  cd : FVec Ideal S1x512 .f32
  dm : Vec Ideal S4x128x256 .f32
  own : FVec Ideal S2x128 .bf16
  bd : Vec Ideal S128x128 .f32

/-- Head pair `g`'s state when chunk `n` of the block begins. -/
def stateAt (I : Ins) (s0 : ℕ → FVec Ideal S128x128 .f32) (g : ℕ) : ℕ → FVec Ideal S128x128 .f32
  | 0 => s0 g
  | n + 1 => advance I.cd (k0_pay16 I.bd) g (gain (tile I.k n g) (tab I.kw g) (tile I.v n g)) (stateAt I s0 g n)

/-- What chunk `n`'s rows gather in head pair `g`. -/
def gathered (I : Ins) (s0 : ℕ → FVec Ideal S128x128 .f32) (n g : ℕ) : FVec Ideal S128x128 .f32 :=
  gather (tile I.q n g) (tab I.qw g) (stateAt I s0 g n)
    (within I.own (scores I.own (tile I.q n g) (tile I.k n g) (maskT I.dm g)) (tile I.v n g))

/-- Four tiles side by side. -/
def sideBySide4 (a b c d : FVec Ideal S128x128 .f32) : FVec Ideal S128x512 .f32 :=
  concatenate S128x512 1 [⟨S128x128, a⟩, ⟨S128x128, b⟩, ⟨S128x128, c⟩, ⟨S128x128, d⟩] concatenates_S128x128_S128x128_S128x128_S128x128_S128x512_d1

/-- Four strips one above the other. -/
def above4 (a b c d : FVec Ideal S128x512 .f32) : FVec Ideal S512x512 .f32 :=
  concatenate S512x512 0 [⟨S128x512, a⟩, ⟨S128x512, b⟩, ⟨S128x512, c⟩, ⟨S128x512, d⟩] concatenates_S128x512_S128x512_S128x512_S128x512_S512x512_d0

/-- The sixteen tiles as one block. -/
def assembled (Y : ℕ → ℕ → FVec Ideal S128x128 .f32) : FVec Ideal S512x512 .f32 :=
  above4 (sideBySide4 (Y 0 0) (Y 0 1) (Y 0 2) (Y 0 3)) (sideBySide4 (Y 1 0) (Y 1 1) (Y 1 2) (Y 1 3))
    (sideBySide4 (Y 2 0) (Y 2 1) (Y 2 2) (Y 2 3)) (sideBySide4 (Y 3 0) (Y 3 1) (Y 3 2) (Y 3 3))

/-- Each lane replaced by the sum over its head's lanes (a product with the block-diagonal table). -/
def headSums (bd : Vec Ideal S128x128 .f32) (y : FVec Ideal S512x512 .f32) : FVec Ideal S512x512 .f32 :=
  concatenate S512x512 1 [⟨S512x128, matmul dot_S512x128_S128x128_S512x128_1_0_0_1_n_n none (truncf .bf16 (extractStridedSlice S512x128 ![0, 0] y slices_S512x512_o0_0_S512x128) bitsLt_bf16_f32) (k0_pay126 bd) (constant S512x128 .f32 0x00000000#32)⟩,
    ⟨S512x128, matmul dot_S512x128_S128x128_S512x128_1_0_0_1_n_n none (truncf .bf16 (extractStridedSlice S512x128 ![0, 128] y slices_S512x512_o0_128_S512x128) bitsLt_bf16_f32) (k0_pay126 bd) (constant S512x128 .f32 0x00000000#32)⟩,
    ⟨S512x128, matmul dot_S512x128_S128x128_S512x128_1_0_0_1_n_n none (truncf .bf16 (extractStridedSlice S512x128 ![0, 256] y slices_S512x512_o0_256_S512x128) bitsLt_bf16_f32) (k0_pay126 bd) (constant S512x128 .f32 0x00000000#32)⟩,
    ⟨S512x128, matmul dot_S512x128_S128x128_S512x128_1_0_0_1_n_n none (truncf .bf16 (extractStridedSlice S512x128 ![0, 384] y slices_S512x512_o0_384_S512x128) bitsLt_bf16_f32) (k0_pay126 bd) (constant S512x128 .f32 0x00000000#32)⟩] concatenates_S512x128_S512x128_S512x128_S512x128_S512x512_d1

/-- Deviation of each lane from its head's mean. -/
def centred (bd : Vec Ideal S128x128 .f32) (y : FVec Ideal S512x512 .f32) : FVec Ideal S512x512 .f32 :=
  subf y (mulf (headSums bd y) (broadcast S512x512 (Scalar.ofBits .f32 0x3C800000#32 : Ideal .f32)))

/-- Head normalisation of the gathered block and the gate. -/
def finished (bd : Vec Ideal S128x128 .f32) (gate y : FVec Ideal S512x512 .f32) : FVec Ideal S512x512 .bf16 :=
  truncf .bf16 (mulf (mulf (centred bd y) (rsqrt (addf (mulf (headSums bd (mulf (centred bd y) (centred bd y))) (broadcast S512x512 (Scalar.ofBits .f32 0x3C800000#32 : Ideal .f32))) (broadcast S512x512 (Scalar.ofBits .f32 0x358637BD#32 : Ideal .f32)))))
    (mulf gate (addf (mulf (broadcast S512x512 (Scalar.ofBits .f32 0x3F000000#32 : Ideal .f32)) (tanh (mulf (broadcast S512x512 (Scalar.ofBits .f32 0x3F000000#32 : Ideal .f32)) gate))) (broadcast S512x512 (Scalar.ofBits .f32 0x3F000000#32 : Ideal .f32))))) bitsLt_bf16_f32

/-- What the body stores of its rows. -/
def blockOut (I : Ins) (s0 : ℕ → FVec Ideal S128x128 .f32) : FVec Ideal S512x512 .bf16 :=
  finished I.bd I.gate (assembled (gathered I s0))

/-! The sixteen spellings of each step, chunk by chunk and head pair by head pair (the digits of a name). -/

/-- The printed scores, chunk 0, head pair 0. -/
theorem sc_00 (c s q a0 a1 a2 : FVec Ideal S512x512 .f32) (w : Vec Ideal S2x128 .bf16) (dm : Vec Ideal S4x128x256 .f32) :
    k0_pay17 k0_pay4 c s q a0 a1 a2 w (View.ld dm (Rect.unit ![0, 0, 0] ![1, 128, 256] inb_S4x128x256_S1x128x256_0_0_0)) = scores (k0_pay15 w) (tile q 0 0) (tile (k0_pay11 k0_pay4 c s a0 a1 a2) 0 0) (maskT dm 0) := rfl

/-- The printed scores, chunk 0, head pair 1. -/
theorem sc_01 (c s q a0 a1 a2 : FVec Ideal S512x512 .f32) (w : Vec Ideal S2x128 .bf16) (dm : Vec Ideal S4x128x256 .f32) :
    k0_pay19 (k0_pay18 k0_pay4 c s q a0 a1 a2 w) (View.ld dm (Rect.unit ![1, 0, 0] ![1, 128, 256] inb_S4x128x256_S1x128x256_1_0_0)) = scores (k0_pay15 w) (tile q 0 1) (tile (k0_pay11 k0_pay4 c s a0 a1 a2) 0 1) (maskT dm 1) := rfl

/-- The printed scores, chunk 0, head pair 2. -/
theorem sc_02 (q k : FVec Ideal S512x512 .f32) (own : FVec Ideal S2x128 .bf16) (dm : Vec Ideal S4x128x256 .f32) :
    k0_pay20 q k own (View.ld dm (Rect.unit ![2, 0, 0] ![1, 128, 256] inb_S4x128x256_S1x128x256_2_0_0)) = scores own (tile q 0 2) (tile k 0 2) (maskT dm 2) := rfl

/-- The printed scores, chunk 0, head pair 3. -/
theorem sc_03 (q k : FVec Ideal S512x512 .f32) (own : FVec Ideal S2x128 .bf16) (dm : Vec Ideal S4x128x256 .f32) :
    k0_pay21 q k own (View.ld dm (Rect.unit ![3, 0, 0] ![1, 128, 256] inb_S4x128x256_S1x128x256_3_0_0)) = scores own (tile q 0 3) (tile k 0 3) (maskT dm 3) := rfl

/-- The printed scores, chunk 1, head pair 0. -/
theorem sc_10 (q k : FVec Ideal S512x512 .f32) (own : FVec Ideal S2x128 .bf16) (dm : Vec Ideal S4x128x256 .f32) :
    k0_pay22 q k own (View.ld dm (Rect.unit ![0, 0, 0] ![1, 128, 256] inb_S4x128x256_S1x128x256_0_0_0)) = scores own (tile q 1 0) (tile k 1 0) (maskT dm 0) := rfl

/-- The printed scores, chunk 1, head pair 1. -/
theorem sc_11 (q k : FVec Ideal S512x512 .f32) (own : FVec Ideal S2x128 .bf16) (dm : Vec Ideal S4x128x256 .f32) :
    k0_pay24 k own (k0_pay23 q) (View.ld dm (Rect.unit ![1, 0, 0] ![1, 128, 256] inb_S4x128x256_S1x128x256_1_0_0)) = scores own (tile q 1 1) (tile k 1 1) (maskT dm 1) := rfl

/-- The printed scores, chunk 1, head pair 2. -/
theorem sc_12 (q k : FVec Ideal S512x512 .f32) (own : FVec Ideal S2x128 .bf16) (dm : Vec Ideal S4x128x256 .f32) :
    k0_pay25 q k own (View.ld dm (Rect.unit ![2, 0, 0] ![1, 128, 256] inb_S4x128x256_S1x128x256_2_0_0)) = scores own (tile q 1 2) (tile k 1 2) (maskT dm 2) := rfl

/-- The printed scores, chunk 1, head pair 3. -/
theorem sc_13 (q k : FVec Ideal S512x512 .f32) (own : FVec Ideal S2x128 .bf16) (dm : Vec Ideal S4x128x256 .f32) :
    k0_pay26 q k own (View.ld dm (Rect.unit ![3, 0, 0] ![1, 128, 256] inb_S4x128x256_S1x128x256_3_0_0)) = scores own (tile q 1 3) (tile k 1 3) (maskT dm 3) := rfl

/-- The printed scores, chunk 2, head pair 0. -/
theorem sc_20 (q k : FVec Ideal S512x512 .f32) (own : FVec Ideal S2x128 .bf16) (dm : Vec Ideal S4x128x256 .f32) :
    k0_pay30 own (k0_pay27 q) (k0_pay28 k) (k0_pay29 own) (View.ld dm (Rect.unit ![0, 0, 0] ![1, 128, 256] inb_S4x128x256_S1x128x256_0_0_0)) = scores own (tile q 2 0) (tile k 2 0) (maskT dm 0) := rfl

/-- The printed scores, chunk 2, head pair 1. -/
theorem sc_21 (q k : FVec Ideal S512x512 .f32) (own : FVec Ideal S2x128 .bf16) (dm : Vec Ideal S4x128x256 .f32) :
    k0_pay31 q k own (View.ld dm (Rect.unit ![1, 0, 0] ![1, 128, 256] inb_S4x128x256_S1x128x256_1_0_0)) = scores own (tile q 2 1) (tile k 2 1) (maskT dm 1) := rfl

/-- The printed scores, chunk 2, head pair 2. -/
theorem sc_22 (q k : FVec Ideal S512x512 .f32) (own : FVec Ideal S2x128 .bf16) (dm : Vec Ideal S4x128x256 .f32) :
    k0_pay32 q k own (View.ld dm (Rect.unit ![2, 0, 0] ![1, 128, 256] inb_S4x128x256_S1x128x256_2_0_0)) = scores own (tile q 2 2) (tile k 2 2) (maskT dm 2) := rfl

/-- The printed scores, chunk 2, head pair 3. -/
theorem sc_23 (q k : FVec Ideal S512x512 .f32) (own : FVec Ideal S2x128 .bf16) (dm : Vec Ideal S4x128x256 .f32) :
    k0_pay37 (k0_pay33 q) (k0_pay34 k) (k0_pay35 k own) (k0_pay36 own) (View.ld dm (Rect.unit ![3, 0, 0] ![1, 128, 256] inb_S4x128x256_S1x128x256_3_0_0)) = scores own (tile q 2 3) (tile k 2 3) (maskT dm 3) := rfl

/-- The printed scores, chunk 3, head pair 0. -/
theorem sc_30 (q k : FVec Ideal S512x512 .f32) (own : FVec Ideal S2x128 .bf16) (dm : Vec Ideal S4x128x256 .f32) :
    k0_pay38 q k own (View.ld dm (Rect.unit ![0, 0, 0] ![1, 128, 256] inb_S4x128x256_S1x128x256_0_0_0)) = scores own (tile q 3 0) (tile k 3 0) (maskT dm 0) := rfl

/-- The printed scores, chunk 3, head pair 1. -/
theorem sc_31 (q k : FVec Ideal S512x512 .f32) (own : FVec Ideal S2x128 .bf16) (dm : Vec Ideal S4x128x256 .f32) :
    k0_pay39 q k own (View.ld dm (Rect.unit ![1, 0, 0] ![1, 128, 256] inb_S4x128x256_S1x128x256_1_0_0)) = scores own (tile q 3 1) (tile k 3 1) (maskT dm 1) := rfl

/-- The printed scores, chunk 3, head pair 2. -/
theorem sc_32 (q k : FVec Ideal S512x512 .f32) (own : FVec Ideal S2x128 .bf16) (dm : Vec Ideal S4x128x256 .f32) :
    k0_pay42 (k0_pay40 q) (k0_pay41 k own) (View.ld dm (Rect.unit ![2, 0, 0] ![1, 128, 256] inb_S4x128x256_S1x128x256_2_0_0)) = scores own (tile q 3 2) (tile k 3 2) (maskT dm 2) := rfl

/-- The printed scores, chunk 3, head pair 3. -/
theorem sc_33 (q k : FVec Ideal S512x512 .f32) (own : FVec Ideal S2x128 .bf16) (dm : Vec Ideal S4x128x256 .f32) :
    k0_pay43 q k own (View.ld dm (Rect.unit ![3, 0, 0] ![1, 128, 256] inb_S4x128x256_S1x128x256_3_0_0)) = scores own (tile q 3 3) (tile k 3 3) (maskT dm 3) := rfl

/-- What the printed scores gather, chunk 0, head pair 0. -/
theorem wi_00 (v : FVec Ideal S512x512 .f32) (own : FVec Ideal S2x128 .bf16) (a : FVec Ideal S128x256 .f32) :
    k0_pay65 v own a = within own a (tile v 0 0) := rfl

/-- What the printed scores gather, chunk 0, head pair 1. -/
theorem wi_01 (v : FVec Ideal S512x512 .f32) (own : FVec Ideal S2x128 .bf16) (a : FVec Ideal S128x256 .f32) :
    k0_pay66 v own a = within own a (tile v 0 1) := rfl

/-- What the printed scores gather, chunk 0, head pair 2. -/
theorem wi_02 (v : FVec Ideal S512x512 .f32) (own : FVec Ideal S2x128 .bf16) (a : FVec Ideal S128x256 .f32) :
    k0_pay67 v own a = within own a (tile v 0 2) := rfl

/-- What the printed scores gather, chunk 0, head pair 3. -/
theorem wi_03 (v : FVec Ideal S512x512 .f32) (own : FVec Ideal S2x128 .bf16) (a : FVec Ideal S128x256 .f32) :
    k0_pay68 v own a = within own a (tile v 0 3) := rfl

/-- What the printed scores gather, chunk 1, head pair 0. -/
theorem wi_10 (v : FVec Ideal S512x512 .f32) (own : FVec Ideal S2x128 .bf16) (a : FVec Ideal S128x256 .f32) :
    k0_pay69 v own a = within own a (tile v 1 0) := rfl

/-- What the printed scores gather, chunk 1, head pair 1. -/
theorem wi_11 (v : FVec Ideal S512x512 .f32) (own : FVec Ideal S2x128 .bf16) (a : FVec Ideal S128x256 .f32) :
    k0_pay70 v own a = within own a (tile v 1 1) := rfl

/-- What the printed scores gather, chunk 1, head pair 2. -/
theorem wi_12 (v : FVec Ideal S512x512 .f32) (own : FVec Ideal S2x128 .bf16) (a : FVec Ideal S128x256 .f32) :
    k0_pay71 v own a = within own a (tile v 1 2) := rfl

/-- What the printed scores gather, chunk 1, head pair 3. -/
theorem wi_13 (v : FVec Ideal S512x512 .f32) (own : FVec Ideal S2x128 .bf16) (a : FVec Ideal S128x256 .f32) :
    k0_pay72 v own a = within own a (tile v 1 3) := rfl

/-- What the printed scores gather, chunk 2, head pair 0. -/
theorem wi_20 (v : FVec Ideal S512x512 .f32) (own : FVec Ideal S2x128 .bf16) (a : FVec Ideal S128x256 .f32) :
    k0_pay73 v own a = within own a (tile v 2 0) := rfl

/-- What the printed scores gather, chunk 2, head pair 1. -/
theorem wi_21 (v : FVec Ideal S512x512 .f32) (own : FVec Ideal S2x128 .bf16) (a : FVec Ideal S128x256 .f32) :
    k0_pay74 v own a = within own a (tile v 2 1) := rfl

/-- What the printed scores gather, chunk 2, head pair 2. -/
theorem wi_22 (v : FVec Ideal S512x512 .f32) (own : FVec Ideal S2x128 .bf16) (a : FVec Ideal S128x256 .f32) :
    k0_pay75 v own a = within own a (tile v 2 2) := rfl

/-- What the printed scores gather, chunk 2, head pair 3. -/
theorem wi_23 (v : FVec Ideal S512x512 .f32) (own : FVec Ideal S2x128 .bf16) (a : FVec Ideal S128x256 .f32) :
    k0_pay76 v own a = within own a (tile v 2 3) := rfl

/-- What the printed scores gather, chunk 3, head pair 0. -/
theorem wi_30 (v : FVec Ideal S512x512 .f32) (own : FVec Ideal S2x128 .bf16) (a : FVec Ideal S128x256 .f32) :
    k0_pay77 v own a = within own a (tile v 3 0) := rfl

/-- What the printed scores gather, chunk 3, head pair 1. -/
theorem wi_31 (v : FVec Ideal S512x512 .f32) (own : FVec Ideal S2x128 .bf16) (a : FVec Ideal S128x256 .f32) :
    k0_pay78 v own a = within own a (tile v 3 1) := rfl

/-- What the printed scores gather, chunk 3, head pair 2. -/
theorem wi_32 (v : FVec Ideal S512x512 .f32) (own : FVec Ideal S2x128 .bf16) (a : FVec Ideal S128x256 .f32) :
    k0_pay79 v own a = within own a (tile v 3 2) := rfl

/-- What the printed scores gather, chunk 3, head pair 3. -/
theorem wi_33 (v : FVec Ideal S512x512 .f32) (own : FVec Ideal S2x128 .bf16) (a : FVec Ideal S128x256 .f32) :
    k0_pay80 v own a = within own a (tile v 3 3) := rfl

/-- The printed gain, chunk 0, head pair 0. -/
theorem ga_00 (k v : FVec Ideal S512x512 .f32) (kw : Vec Ideal S128x512 .f32) :
    k0_pay44 k v (View.ld kw (Rect.unit ![0, 0] ![128, 128] inb_S128x512_S128x128_0_0)) = gain (tile k 0 0) (tab kw 0) (tile v 0 0) := rfl

/-- The printed gain, chunk 0, head pair 1. -/
theorem ga_01 (k v : FVec Ideal S512x512 .f32) (kw : Vec Ideal S128x512 .f32) :
    k0_pay45 k v (View.ld kw (Rect.unit ![0, 128] ![128, 128] inb_S128x512_S128x128_0_128)) = gain (tile k 0 1) (tab kw 1) (tile v 0 1) := rfl

/-- The printed gain, chunk 0, head pair 2. -/
theorem ga_02 (k v : FVec Ideal S512x512 .f32) (kw : Vec Ideal S128x512 .f32) :
    k0_pay48 (k0_pay46 k (View.ld kw (Rect.unit ![0, 256] ![128, 128] inb_S128x512_S128x128_0_256))) (k0_pay47 v) (constant S128x128 FTy.f32 0#32) = gain (tile k 0 2) (tab kw 2) (tile v 0 2) := rfl

/-- The printed gain, chunk 0, head pair 3. -/
theorem ga_03 (k v : FVec Ideal S512x512 .f32) (kw : Vec Ideal S128x512 .f32) :
    k0_pay49 k v (View.ld kw (Rect.unit ![0, 384] ![128, 128] inb_S128x512_S128x128_0_384)) = gain (tile k 0 3) (tab kw 3) (tile v 0 3) := rfl

/-- The printed gain, chunk 1, head pair 0. -/
theorem ga_10 (k v : FVec Ideal S512x512 .f32) (kw : Vec Ideal S128x512 .f32) :
    k0_pay50 k v (View.ld kw (Rect.unit ![0, 0] ![128, 128] inb_S128x512_S128x128_0_0)) = gain (tile k 1 0) (tab kw 0) (tile v 1 0) := rfl

/-- The printed gain, chunk 1, head pair 1. -/
theorem ga_11 (k v : FVec Ideal S512x512 .f32) (kw : Vec Ideal S128x512 .f32) :
    k0_pay51 k v (View.ld kw (Rect.unit ![0, 128] ![128, 128] inb_S128x512_S128x128_0_128)) = gain (tile k 1 1) (tab kw 1) (tile v 1 1) := rfl

/-- The printed gain, chunk 1, head pair 2. -/
theorem ga_12 (k v : FVec Ideal S512x512 .f32) (kw : Vec Ideal S128x512 .f32) :
    k0_pay52 k v (View.ld kw (Rect.unit ![0, 256] ![128, 128] inb_S128x512_S128x128_0_256)) = gain (tile k 1 2) (tab kw 2) (tile v 1 2) := rfl

/-- The printed gain, chunk 1, head pair 3. -/
theorem ga_13 (k v : FVec Ideal S512x512 .f32) (kw : Vec Ideal S128x512 .f32) :
    k0_pay53 k v (View.ld kw (Rect.unit ![0, 384] ![128, 128] inb_S128x512_S128x128_0_384)) = gain (tile k 1 3) (tab kw 3) (tile v 1 3) := rfl

/-- The printed gain, chunk 2, head pair 0. -/
theorem ga_20 (k v : FVec Ideal S512x512 .f32) (kw : Vec Ideal S128x512 .f32) :
    k0_pay55 v (k0_pay54 k) (View.ld kw (Rect.unit ![0, 0] ![128, 128] inb_S128x512_S128x128_0_0)) = gain (tile k 2 0) (tab kw 0) (tile v 2 0) := rfl

/-- The printed gain, chunk 2, head pair 1. -/
theorem ga_21 (k v : FVec Ideal S512x512 .f32) (kw : Vec Ideal S128x512 .f32) :
    k0_pay56 k v (View.ld kw (Rect.unit ![0, 128] ![128, 128] inb_S128x512_S128x128_0_128)) = gain (tile k 2 1) (tab kw 1) (tile v 2 1) := rfl

/-- The printed gain, chunk 2, head pair 2. -/
theorem ga_22 (k v : FVec Ideal S512x512 .f32) (kw : Vec Ideal S128x512 .f32) :
    k0_pay57 k v (View.ld kw (Rect.unit ![0, 256] ![128, 128] inb_S128x512_S128x128_0_256)) = gain (tile k 2 2) (tab kw 2) (tile v 2 2) := rfl

/-- The printed gain, chunk 2, head pair 3. -/
theorem ga_23 (k v : FVec Ideal S512x512 .f32) (kw : Vec Ideal S128x512 .f32) :
    k0_pay58 k v (View.ld kw (Rect.unit ![0, 384] ![128, 128] inb_S128x512_S128x128_0_384)) = gain (tile k 2 3) (tab kw 3) (tile v 2 3) := rfl

/-- The printed next state, chunk 1, head pair 0. -/
theorem ad_10 (cd : FVec Ideal S1x512 .f32) (own : IVec S128x128 1) (u S : FVec Ideal S128x128 .f32) :
    k0_pay87 cd own u S = advance cd own 0 u S := rfl

/-- The printed next state, chunk 1, head pair 1. -/
theorem ad_11 (cd : FVec Ideal S1x512 .f32) (own : IVec S128x128 1) (u S : FVec Ideal S128x128 .f32) :
    k0_pay89 cd own u S = advance cd own 1 u S := rfl

/-- The printed next state, chunk 1, head pair 2. -/
theorem ad_12 (cd : FVec Ideal S1x512 .f32) (own : IVec S128x128 1) (u S : FVec Ideal S128x128 .f32) :
    k0_pay91 cd own u S = advance cd own 2 u S := rfl

/-- The printed next state, chunk 1, head pair 3. -/
theorem ad_13 (cd : FVec Ideal S1x512 .f32) (own : IVec S128x128 1) (u S : FVec Ideal S128x128 .f32) :
    k0_pay94 cd own u S = advance cd own 3 u S := rfl

/-- The printed next state, chunk 2, head pair 0. -/
theorem ad_20 (cd : FVec Ideal S1x512 .f32) (own : IVec S128x128 1) (u S : FVec Ideal S128x128 .f32) :
    k0_pay96 cd own u S = advance cd own 0 u S := rfl

/-- The printed next state, chunk 2, head pair 1. -/
theorem ad_21 (cd : FVec Ideal S1x512 .f32) (own : IVec S128x128 1) (u S : FVec Ideal S128x128 .f32) :
    k0_pay98 cd own u S = advance cd own 1 u S := rfl

/-- The printed next state, chunk 2, head pair 2. -/
theorem ad_22 (cd : FVec Ideal S1x512 .f32) (own : IVec S128x128 1) (u S : FVec Ideal S128x128 .f32) :
    k0_pay102 own u (k0_pay100 cd S) k0_pay101 = advance cd own 2 u S := rfl

/-- The printed next state, chunk 2, head pair 3. -/
theorem ad_23 (cd : FVec Ideal S1x512 .f32) (own : IVec S128x128 1) (u S : FVec Ideal S128x128 .f32) :
    k0_pay104 cd own u S = advance cd own 3 u S := rfl

/-- The printed next state, chunk 3, head pair 0. -/
theorem ad_30 (cd : FVec Ideal S1x512 .f32) (own : IVec S128x128 1) (u S : FVec Ideal S128x128 .f32) :
    k0_pay106 cd own u S = advance cd own 0 u S := rfl

/-- The printed next state, chunk 3, head pair 1. -/
theorem ad_31 (cd : FVec Ideal S1x512 .f32) (own : IVec S128x128 1) (u S : FVec Ideal S128x128 .f32) :
    k0_pay108 cd own u S = advance cd own 1 u S := rfl

/-- The printed next state, chunk 3, head pair 2. -/
theorem ad_32 (cd : FVec Ideal S1x512 .f32) (own : IVec S128x128 1) (u S : FVec Ideal S128x128 .f32) :
    k0_pay111 cd own u S = advance cd own 2 u S := rfl

/-- The printed next state, chunk 3, head pair 3. -/
theorem ad_33 (cd : FVec Ideal S1x512 .f32) (own : IVec S128x128 1) (u S : FVec Ideal S128x128 .f32) :
    k0_pay113 cd own u S = advance cd own 3 u S := rfl

/-- The printed sum of the two gathered parts, chunk 0, head pair 0. -/
theorem gr_00 (q : FVec Ideal S512x512 .f32) (qw : Vec Ideal S128x512 .f32) (a S : FVec Ideal S128x128 .f32) :
    k0_pay86 a S (k0_pay85 q) (View.ld qw (Rect.unit ![0, 0] ![128, 128] inb_S128x512_S128x128_0_0)) = gather (tile q 0 0) (tab qw 0) S a := rfl

/-- The printed sum of the two gathered parts, chunk 0, head pair 1. -/
theorem gr_01 (q : FVec Ideal S512x512 .f32) (qw : Vec Ideal S128x512 .f32) (a S : FVec Ideal S128x128 .f32) :
    k0_pay88 q a S (View.ld qw (Rect.unit ![0, 128] ![128, 128] inb_S128x512_S128x128_0_128)) = gather (tile q 0 1) (tab qw 1) S a := rfl

/-- The printed sum of the two gathered parts, chunk 0, head pair 2. -/
theorem gr_02 (q : FVec Ideal S512x512 .f32) (qw : Vec Ideal S128x512 .f32) (a S : FVec Ideal S128x128 .f32) :
    k0_pay90 q a S (View.ld qw (Rect.unit ![0, 256] ![128, 128] inb_S128x512_S128x128_0_256)) = gather (tile q 0 2) (tab qw 2) S a := rfl

/-- The printed sum of the two gathered parts, chunk 0, head pair 3. -/
theorem gr_03 (q : FVec Ideal S512x512 .f32) (qw : Vec Ideal S128x512 .f32) (a S : FVec Ideal S128x128 .f32) :
    k0_pay93 a (k0_pay92 q S (View.ld qw (Rect.unit ![0, 384] ![128, 128] inb_S128x512_S128x128_0_384))) = gather (tile q 0 3) (tab qw 3) S a := rfl

/-- The printed sum of the two gathered parts, chunk 1, head pair 0. -/
theorem gr_10 (q : FVec Ideal S512x512 .f32) (qw : Vec Ideal S128x512 .f32) (a S : FVec Ideal S128x128 .f32) :
    k0_pay95 q a S (View.ld qw (Rect.unit ![0, 0] ![128, 128] inb_S128x512_S128x128_0_0)) = gather (tile q 1 0) (tab qw 0) S a := rfl

/-- The printed sum of the two gathered parts, chunk 1, head pair 1. -/
theorem gr_11 (q : FVec Ideal S512x512 .f32) (qw : Vec Ideal S128x512 .f32) (a S : FVec Ideal S128x128 .f32) :
    k0_pay97 q a S (View.ld qw (Rect.unit ![0, 128] ![128, 128] inb_S128x512_S128x128_0_128)) = gather (tile q 1 1) (tab qw 1) S a := rfl

/-- The printed sum of the two gathered parts, chunk 1, head pair 2. -/
theorem gr_12 (q : FVec Ideal S512x512 .f32) (qw : Vec Ideal S128x512 .f32) (a S : FVec Ideal S128x128 .f32) :
    k0_pay99 q a S (View.ld qw (Rect.unit ![0, 256] ![128, 128] inb_S128x512_S128x128_0_256)) = gather (tile q 1 2) (tab qw 2) S a := rfl

/-- The printed sum of the two gathered parts, chunk 1, head pair 3. -/
theorem gr_13 (q : FVec Ideal S512x512 .f32) (qw : Vec Ideal S128x512 .f32) (a S : FVec Ideal S128x128 .f32) :
    k0_pay103 q a S (View.ld qw (Rect.unit ![0, 384] ![128, 128] inb_S128x512_S128x128_0_384)) = gather (tile q 1 3) (tab qw 3) S a := rfl

/-- The printed sum of the two gathered parts, chunk 2, head pair 0. -/
theorem gr_20 (q : FVec Ideal S512x512 .f32) (qw : Vec Ideal S128x512 .f32) (a S : FVec Ideal S128x128 .f32) :
    k0_pay105 q a S (View.ld qw (Rect.unit ![0, 0] ![128, 128] inb_S128x512_S128x128_0_0)) = gather (tile q 2 0) (tab qw 0) S a := rfl

/-- The printed sum of the two gathered parts, chunk 2, head pair 1. -/
theorem gr_21 (q : FVec Ideal S512x512 .f32) (qw : Vec Ideal S128x512 .f32) (a S : FVec Ideal S128x128 .f32) :
    k0_pay107 q a S (View.ld qw (Rect.unit ![0, 128] ![128, 128] inb_S128x512_S128x128_0_128)) = gather (tile q 2 1) (tab qw 1) S a := rfl

/-- The printed sum of the two gathered parts, chunk 2, head pair 2. -/
theorem gr_22 (q : FVec Ideal S512x512 .f32) (qw : Vec Ideal S128x512 .f32) (a S : FVec Ideal S128x128 .f32) :
    k0_pay110 a S (k0_pay109 q) (View.ld qw (Rect.unit ![0, 256] ![128, 128] inb_S128x512_S128x128_0_256)) = gather (tile q 2 2) (tab qw 2) S a := rfl

/-- The printed sum of the two gathered parts, chunk 2, head pair 3. -/
theorem gr_23 (q : FVec Ideal S512x512 .f32) (qw : Vec Ideal S128x512 .f32) (a S : FVec Ideal S128x128 .f32) :
    k0_pay112 q a S (View.ld qw (Rect.unit ![0, 384] ![128, 128] inb_S128x512_S128x128_0_384)) = gather (tile q 2 3) (tab qw 3) S a := rfl

/-- The printed sum of the two gathered parts, chunk 3, head pair 0. -/
theorem gr_30 (q : FVec Ideal S512x512 .f32) (qw : Vec Ideal S128x512 .f32) (a S : FVec Ideal S128x128 .f32) :
    k0_pay114 q a S (View.ld qw (Rect.unit ![0, 0] ![128, 128] inb_S128x512_S128x128_0_0)) = gather (tile q 3 0) (tab qw 0) S a := rfl

/-- The printed sum of the two gathered parts, chunk 3, head pair 1. -/
theorem gr_31 (q : FVec Ideal S512x512 .f32) (qw : Vec Ideal S128x512 .f32) (a S : FVec Ideal S128x128 .f32) :
    k0_pay117 a (k0_pay116 q S (View.ld qw (Rect.unit ![0, 128] ![128, 128] inb_S128x512_S128x128_0_128))) = gather (tile q 3 1) (tab qw 1) S a := rfl

/-- The printed sum of the two gathered parts, chunk 3, head pair 2. -/
theorem gr_32 (q : FVec Ideal S512x512 .f32) (qw : Vec Ideal S128x512 .f32) (a S : FVec Ideal S128x128 .f32) :
    k0_pay118 q a S (View.ld qw (Rect.unit ![0, 256] ![128, 128] inb_S128x512_S128x128_0_256)) = gather (tile q 3 2) (tab qw 2) S a := rfl

/-- The printed sum of the two gathered parts, chunk 3, head pair 3. -/
theorem gr_33 (q : FVec Ideal S512x512 .f32) (qw : Vec Ideal S128x512 .f32) (a S : FVec Ideal S128x128 .f32) :
    k0_pay120 q a S (View.ld qw (Rect.unit ![0, 384] ![128, 128] inb_S128x512_S128x128_0_384)) = gather (tile q 3 3) (tab qw 3) S a := rfl

/-- The printed read of the carried state, head pair 0. -/
theorem st_0 (x : Vec Ideal S4x128x128 .f32) :
    k0_pay81 (View.ld x (Rect.unit ![0, 0, 0] ![1, 128, 128] inb_S4x128x128_S1x128x128_0_0_0)) = stateT x 0 := rfl

/-- The printed read of the carried state, head pair 1. -/
theorem st_1 (x : Vec Ideal S4x128x128 .f32) :
    k0_pay82 (View.ld x (Rect.unit ![1, 0, 0] ![1, 128, 128] inb_S4x128x128_S1x128x128_1_0_0)) = stateT x 1 := rfl

/-- The printed read of the carried state, head pair 2. -/
theorem st_2 (x : Vec Ideal S4x128x128 .f32) :
    k0_pay83 (View.ld x (Rect.unit ![2, 0, 0] ![1, 128, 128] inb_S4x128x128_S1x128x128_2_0_0)) = stateT x 2 := rfl

/-- The printed read of the carried state, head pair 3. -/
theorem st_3 (x : Vec Ideal S4x128x128 .f32) :
    k0_pay84 (View.ld x (Rect.unit ![3, 0, 0] ![1, 128, 128] inb_S4x128x128_S1x128x128_3_0_0)) = stateT x 3 := rfl

/-- The printed ending is the assembled block, normalised and gated. -/
theorem fin (y00 y01 y02 y03 y10 y11 y12 y13 y20 y21 y22 y23 y30 y31 y32 y33 : FVec Ideal S128x128 .f32) (bd : Vec Ideal S128x128 .f32) (gate : FVec Ideal S512x512 .f32) :
    k0_pay1 gate (k0_pay127 y00 y01 y02 y03 y10 y11 y12 y13 y20 y21 y22 y23 y30 y31 y32 y33 bd) (k0_pay129 y00 y01 y02 y03 y10 y11 y12 y13 y20 y21 y22 y23 y30 y31 y32 y33 bd) (k0_pay130 y00 y01 y02 y03 y10 y11 y12 y13 y20 y21 y22 y23 y30 y31 y32 y33 bd) (k0_pay131 y00 y01 y02 y03 y10 y11 y12 y13 y20 y21 y22 y23 y30 y31 y32 y33 bd) (k0_pay132 y00 y01 y02 y03 y10 y11 y12 y13 y20 y21 y22 y23 y30 y31 y32 y33 bd) = finished bd gate (above4 (sideBySide4 y00 y01 y02 y03) (sideBySide4 y10 y11 y12 y13) (sideBySide4 y20 y21 y22 y23) (sideBySide4 y30 y31 y32 y33)) := rfl

/-- The printed gain, chunk 3, head pair 0. -/
theorem ga_30 (k v : FVec Ideal S512x512 .f32) (kw : Vec Ideal S128x512 .f32) :
    k0_pay59 k v (View.ld kw (Rect.unit ![0, 0] ![128, 128] inb_S128x512_S128x128_0_0)) = gain (tile k 3 0) (tab kw 0) (tile v 3 0) := rfl

/-- The printed gain, chunk 3, head pair 1. -/
theorem ga_31 (k v : FVec Ideal S512x512 .f32) (kw : Vec Ideal S128x512 .f32) :
    k0_pay62 (k0_pay60 k (View.ld kw (Rect.unit ![0, 128] ![128, 128] inb_S128x512_S128x128_0_128))) (k0_pay61 v) = gain (tile k 3 1) (tab kw 1) (tile v 3 1) := rfl

/-- The printed gain, chunk 3, head pair 2. -/
theorem ga_32 (k v : FVec Ideal S512x512 .f32) (kw : Vec Ideal S128x512 .f32) :
    k0_pay63 k v (View.ld kw (Rect.unit ![0, 256] ![128, 128] inb_S128x512_S128x128_0_256)) = gain (tile k 3 2) (tab kw 2) (tile v 3 2) := rfl

/-- The printed gain, chunk 3, head pair 3. -/
theorem ga_33 (k v : FVec Ideal S512x512 .f32) (kw : Vec Ideal S128x512 .f32) :
    k0_pay64 k v (View.ld kw (Rect.unit ![0, 384] ![128, 128] inb_S128x512_S128x128_0_384)) = gain (tile k 3 3) (tab kw 3) (tile v 3 3) := rfl

/-- The printed next state, chunk 4, head pair 0. -/
theorem ad_40 (cd : FVec Ideal S1x512 .f32) (own : IVec S128x128 1) (u S : FVec Ideal S128x128 .f32) :
    k0_pay122 (k0_pay115 cd own u S) = slab (advance cd own 0 u S) := rfl

/-- The printed next state, chunk 4, head pair 1. -/
theorem ad_41 (cd : FVec Ideal S1x512 .f32) (own : IVec S128x128 1) (u S : FVec Ideal S128x128 .f32) :
    k0_pay123 cd own u S = slab (advance cd own 1 u S) := rfl

/-- The printed next state, chunk 4, head pair 2. -/
theorem ad_42 (cd : FVec Ideal S1x512 .f32) (own : IVec S128x128 1) (u S : FVec Ideal S128x128 .f32) :
    k0_pay124 (k0_pay119 cd own u S) = slab (advance cd own 2 u S) := rfl

/-- The printed next state, chunk 4, head pair 3. -/
theorem ad_43 (cd : FVec Ideal S1x512 .f32) (own : IVec S128x128 1) (u S : FVec Ideal S128x128 .f32) :
    k0_pay125 (k0_pay121 cd own u S) = slab (advance cd own 3 u S) := rfl

variable (m : (ℓ : Loc nD τ sig) → Buf (Elt Ideal) ℓ)

/-- The arrays point `t` works on. -/
def insAt (c : Dev nD) (t : Fin cfg0.N) : Ins where
  q := k0_pay7 (iblk m c 0 t) (iblk m c 1 t) (iblk m c 2 t)
  k := k0_pay11 k0_pay4 (k0_pay5 (iblk m c 1 t)) (k0_pay6 (iblk m c 2 t)) (k0_pay8 (iblk m c 0 t)) (k0_pay9 (iblk m c 0 t)) (k0_pay10 (iblk m c 0 t))
  v := k0_pay12 (k0_pay3 (iblk m c 0 t))
  gate := k0_pay13 (k0_pay3 (iblk m c 0 t))
  qw := iblk m c 3 t
  kw := iblk m c 4 t
  cd := k0_pay14 (iblk m c 5 t)
  dm := iblk m c 6 t
  own := k0_pay15 (iblk m c 7 t)
  bd := iblk m c 8 t

set_option maxHeartbeats 2000000

/-- After a point that does not begin a sequence, the stored rows are `blockOut` from the states the last point left. -/
theorem out_B (c : Dev nD) (t : Fin cfg0.N) (h0 : ¬t.val % 4 = 0) :
    (outsAt0 m c t.val t.isLt).1 = blockOut (insAt m c t) (stateT (outsAt0 m c (t.val - 1) (Nat.lt_of_le_of_lt (Nat.sub_le _ _) t.isLt)).2) := by
  rw [outsAt0_B m c t h0]
  frame_out
  simp only [read_unread_whole]
  simp only [sc_00, sc_01, sc_02, sc_03, sc_10, sc_11, sc_12, sc_13, sc_20, sc_21, sc_22, sc_23, sc_30, sc_31, sc_32, sc_33, wi_00, wi_01, wi_02, wi_03, wi_10, wi_11, wi_12, wi_13, wi_20, wi_21, wi_22, wi_23, wi_30, wi_31, wi_32, wi_33, ga_00, ga_01, ga_02, ga_03, ga_10, ga_11, ga_12, ga_13, ga_20, ga_21, ga_22, ga_23, ad_10, ad_11, ad_12, ad_13, ad_20, ad_21, ad_22, ad_23, ad_30, ad_31, ad_32, ad_33, gr_00, gr_01, gr_02, gr_03, gr_10, gr_11, gr_12, gr_13, gr_20, gr_21, gr_22, gr_23, gr_30, gr_31, gr_32, gr_33, st_0, st_1, st_2, st_3, fin, ga_30, ga_31, ga_32, ga_33, ad_40, ad_41, ad_42, ad_43]
  simp only [blockOut, assembled, gathered, stateAt, insAt]

/-- After a point that begins a sequence, the stored rows are `blockOut` from zero states. -/
theorem out_A (c : Dev nD) (t : Fin cfg0.N) (h0 : t.val % 4 = 0) :
    (outsAt0 m c t.val t.isLt).1 = blockOut (insAt m c t) (stateT (k0_pay2 (F := Ideal))) := by
  rw [outsAt0_A m c t h0]
  frame_out
  simp (disch := decide) only [↓View.readCov_fill]
  simp only [sc_00, sc_01, sc_02, sc_03, sc_10, sc_11, sc_12, sc_13, sc_20, sc_21, sc_22, sc_23, sc_30, sc_31, sc_32, sc_33, wi_00, wi_01, wi_02, wi_03, wi_10, wi_11, wi_12, wi_13, wi_20, wi_21, wi_22, wi_23, wi_30, wi_31, wi_32, wi_33, ga_00, ga_01, ga_02, ga_03, ga_10, ga_11, ga_12, ga_13, ga_20, ga_21, ga_22, ga_23, ad_10, ad_11, ad_12, ad_13, ad_20, ad_21, ad_22, ad_23, ad_30, ad_31, ad_32, ad_33, gr_00, gr_01, gr_02, gr_03, gr_10, gr_11, gr_12, gr_13, gr_20, gr_21, gr_22, gr_23, gr_30, gr_31, gr_32, gr_33, st_0, st_1, st_2, st_3, fin, ga_30, ga_31, ga_32, ga_33, ad_40, ad_41, ad_42, ad_43]
  simp only [blockOut, assembled, gathered, stateAt, insAt]

/-- Four slabs laid over anything, read back slab by slab. -/
theorem slabs_read (a b c d : FVec Ideal S128x128 .f32) (L : List (View.Piece (Elt Ideal) S4x128x128 .f32))
    (h3 h2 h1 h0 : _) (g : ℕ) (hg : g < 4) :
    stateT (View.canon (⟨Rect.unit ![3, 0, 0] ![1, 128, 128] h3, slab d⟩ :: ⟨Rect.unit ![2, 0, 0] ![1, 128, 128] h2, slab c⟩ ::
      ⟨Rect.unit ![1, 0, 0] ![1, 128, 128] h1, slab b⟩ :: ⟨Rect.unit ![0, 0, 0] ![1, 128, 128] h0, slab a⟩ :: L)) g = ![a, b, c, d] ⟨g, hg⟩ := by
  have back : ∀ x, shapeCast S128x128 (slab x) shapeCasts_S1x128x128_S128x128 = x := fun x => by
    unfold slab; exact shapeCast_shapeCast _ _ _
  have e : ∀ (L' : List (View.Piece (Elt Ideal) S4x128x128 .f32)) (r : Rect S4x128x128),
      View.ld (View.canon L') r = (View.whole cc0_scratch0).readCov L' r.toLoadRect := fun L' r =>
    (View.readCov_eq_canon' (View.whole cc0_scratch0) L' r.toLoadRect).symm
  unfold stateT
  rw [e]
  interval_cases g
  · rw [View.readCov_skip _ _ _ _ _ (by rfl), View.readCov_skip _ _ _ _ _ (by rfl), View.readCov_skip _ _ _ _ _ (by rfl)]
    exact (congrArg (fun y => shapeCast S128x128 y shapeCasts_S1x128x128_S128x128) (View.readCov_cons_toLoadRect _ _ _ _)).trans (back a)
  · rw [View.readCov_skip _ _ _ _ _ (by rfl), View.readCov_skip _ _ _ _ _ (by rfl)]
    exact (congrArg (fun y => shapeCast S128x128 y shapeCasts_S1x128x128_S128x128) (View.readCov_cons_toLoadRect _ _ _ _)).trans (back b)
  · rw [View.readCov_skip _ _ _ _ _ (by rfl)]
    exact (congrArg (fun y => shapeCast S128x128 y shapeCasts_S1x128x128_S128x128) (View.readCov_cons_toLoadRect _ _ _ _)).trans (back c)
  · exact (congrArg (fun y => shapeCast S128x128 y shapeCasts_S1x128x128_S128x128) (View.readCov_cons_toLoadRect _ _ _ _)).trans (back d)

/-- The states a point that does not begin a sequence leaves. -/
theorem state_B (c : Dev nD) (t : Fin cfg0.N) (h0 : ¬t.val % 4 = 0) (g : ℕ) (hg : g < 4) :
    stateT (outsAt0 m c t.val t.isLt).2 g =
      stateAt (insAt m c t) (stateT (outsAt0 m c (t.val - 1) (Nat.lt_of_le_of_lt (Nat.sub_le _ _) t.isLt)).2) g 4 := by
  rw [outsAt0_B m c t h0]
  frame_out
  simp only [read_unread_whole]
  simp only [sc_00, sc_01, sc_02, sc_03, sc_10, sc_11, sc_12, sc_13, sc_20, sc_21, sc_22, sc_23, sc_30, sc_31, sc_32, sc_33, wi_00, wi_01, wi_02, wi_03, wi_10, wi_11, wi_12, wi_13, wi_20, wi_21, wi_22, wi_23, wi_30, wi_31, wi_32, wi_33, ga_00, ga_01, ga_02, ga_03, ga_10, ga_11, ga_12, ga_13, ga_20, ga_21, ga_22, ga_23, ad_10, ad_11, ad_12, ad_13, ad_20, ad_21, ad_22, ad_23, ad_30, ad_31, ad_32, ad_33, gr_00, gr_01, gr_02, gr_03, gr_10, gr_11, gr_12, gr_13, gr_20, gr_21, gr_22, gr_23, gr_30, gr_31, gr_32, gr_33, st_0, st_1, st_2, st_3, fin, ga_30, ga_31, ga_32, ga_33, ad_40, ad_41, ad_42, ad_43]
  rw [slabs_read _ _ _ _ _ _ _ _ _ _ hg]
  simp only [stateAt, insAt]
  interval_cases g <;> rfl

/-- The states a point that begins a sequence leaves. -/
theorem state_A (c : Dev nD) (t : Fin cfg0.N) (h0 : t.val % 4 = 0) (g : ℕ) (hg : g < 4) :
    stateT (outsAt0 m c t.val t.isLt).2 g = stateAt (insAt m c t) (stateT (k0_pay2 (F := Ideal))) g 4 := by
  rw [outsAt0_A m c t h0]
  frame_out
  simp (disch := decide) only [↓View.readCov_fill]
  simp only [sc_00, sc_01, sc_02, sc_03, sc_10, sc_11, sc_12, sc_13, sc_20, sc_21, sc_22, sc_23, sc_30, sc_31, sc_32, sc_33, wi_00, wi_01, wi_02, wi_03, wi_10, wi_11, wi_12, wi_13, wi_20, wi_21, wi_22, wi_23, wi_30, wi_31, wi_32, wi_33, ga_00, ga_01, ga_02, ga_03, ga_10, ga_11, ga_12, ga_13, ga_20, ga_21, ga_22, ga_23, ad_10, ad_11, ad_12, ad_13, ad_20, ad_21, ad_22, ad_23, ad_30, ad_31, ad_32, ad_33, gr_00, gr_01, gr_02, gr_03, gr_10, gr_11, gr_12, gr_13, gr_20, gr_21, gr_22, gr_23, gr_30, gr_31, gr_32, gr_33, st_0, st_1, st_2, st_3, fin, ga_30, ga_31, ga_32, ga_33, ad_40, ad_41, ad_42, ad_43]
  rw [slabs_read _ _ _ _ _ _ _ _ _ _ hg]
  simp only [stateAt, insAt]
  interval_cases g <;> rfl

end Cert.Ret
end
end
-- ==== Proof.RetSpec.lean ====
module
public import Idealize.ShloMosaic.Lib.Pointwise
@[expose] public section

/-! Retention by chunks, for one sequence, head by head: what both programs compute. -/

noncomputable section
namespace Cert.Ret
open Idealize.ShloMosaic

/-- The numbers one sequence gives, by head, chunk, row of the chunk and lane of the head: queries and keys (already
rotated, keys scaled), values, gate; and the weights of the recurrence. -/
structure Feed where
  q : ℕ → ℕ → Fin 128 → Fin 64 → EReal
  k : ℕ → ℕ → Fin 128 → Fin 64 → EReal
  v : ℕ → ℕ → Fin 128 → Fin 64 → EReal
  gate : ℕ → ℕ → Fin 128 → Fin 64 → EReal
  dm : ℕ → Fin 128 → Fin 128 → EReal
  qw : ℕ → Fin 128 → EReal
  kw : ℕ → Fin 128 → EReal
  decay : ℕ → EReal

/-- The running state of head `h` as chunk `n` begins. -/
def Feed.run (S : Feed) (h : ℕ) : ℕ → Fin 64 → Fin 64 → EReal
  | 0, _, _ => 0
  | n + 1, d, e => S.run h n d e * S.decay h + ∑ j : Fin 128, (S.k h n j d * S.kw h j) * S.v h n j e

/-- What row `i` of chunk `n` gathers in head `h`: from its own chunk, and from the state. -/
def Feed.got (S : Feed) (h n : ℕ) (i : Fin 128) (e : Fin 64) : EReal :=
  (∑ j : Fin 128, ((∑ d : Fin 64, S.q h n i d * S.k h n j d) * S.dm h i j) * S.v h n j e)
    + ∑ d : Fin 64, (S.q h n i d * S.qw h i) * S.run h n d e

/-- One sixty-fourth, as the programs write it. -/
def w64 : EReal := Ideal.ofBits FTy.f32 0x3C800000#32

/-- The distance of an entry from the mean of its head. -/
def off (y : Fin 64 → EReal) (e : Fin 64) : EReal := y e - (∑ d : Fin 64, y d) * w64

/-- A head's entries, normalised. -/
def normed (y : Fin 64 → EReal) (e : Fin 64) : EReal :=
  off y e * Ideal.rsqrt ((∑ d : Fin 64, off y d * off y d) * w64 + Ideal.ofBits FTy.f32 0x358637BD#32)

/-- The gate's weight. -/
def swish (x : EReal) : EReal := x * Ideal.logistic x

/-- The result. -/
def Feed.out (S : Feed) (h n : ℕ) (i : Fin 128) (e : Fin 64) : EReal :=
  normed (S.got h n i) e * swish (S.gate h n i e)

/-- A sum over two blocks of which only block `s` counts. -/
theorem sum_block {N : ℕ} (F : Fin (N + N) → EReal) (s : ℕ) (hs : s < 2) (hF : ∀ l : Fin (N + N), l.val / N ≠ s → F l = 0) :
    ∑ l, F l = ∑ d : Fin N, F ⟨N * s + d.val, by have := d.isLt; interval_cases s <;> omega⟩ := by
  rw [Fin.sum_univ_add]
  interval_cases s
  · rw [Finset.sum_eq_zero (f := fun i => F (Fin.natAdd N i)), add_zero]
    · exact Finset.sum_congr rfl fun d _ => congrArg F (Fin.ext (by simp))
    · intro d _
      refine hF _ ?_
      have hp : 0 < N := Nat.lt_of_le_of_lt (Nat.zero_le _) d.isLt
      rw [Fin.val_natAdd, Nat.add_div_left _ hp]; exact Nat.succ_ne_zero _
  · rw [Finset.sum_eq_zero (f := fun i => F (Fin.castAdd N i)), zero_add]
    · exact Finset.sum_congr rfl fun d _ => congrArg F (Fin.ext (by simp [Nat.add_comm]))
    · intro d _
      refine hF _ ?_
      rw [Fin.val_castAdd, Nat.div_eq_of_lt d.isLt]; exact Nat.zero_ne_one

/-- A sigmoid by its half-angle tangent. -/
theorem half_tanh (x : EReal) :
    Ideal.ofBits FTy.f32 0x3F000000#32 * Ideal.tanh (Ideal.ofBits FTy.f32 0x3F000000#32 * x) + Ideal.ofBits FTy.f32 0x3F000000#32 = Ideal.logistic x := by
  have hh : Ideal.ofBits FTy.f32 0x3F000000#32 = ((1 / 2 : ℝ) : EReal) := by
    simp [Ideal.ofBits, Ideal.ieee, -EReal.coe_mul]; norm_num
  rw [hh]
  induction x with
  | bot =>
    rw [EReal.coe_mul_bot_of_pos (by norm_num), Ideal.tanh_bot, Ideal.logistic_bot]
    have : (-1 : EReal) = ((-1 : ℝ) : EReal) := by norm_num
    rw [this, ← EReal.coe_mul, ← EReal.coe_add]; norm_num
  | top =>
    rw [EReal.coe_mul_top_of_pos (by norm_num), Ideal.tanh_top, Ideal.logistic_top]
    rw [mul_one, ← EReal.coe_add]; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e1 : Real.exp (1 / 2 * r) ≠ 0 := (Real.exp_pos _).ne'
    have e2 : Real.exp (-r) = Real.exp (-(1 / 2 * r)) * Real.exp (-(1 / 2 * r)) := by rw [← Real.exp_add]; ring_nf
    have e3 : Real.exp (-(1 / 2 * r)) = (Real.exp (1 / 2 * r))⁻¹ := Real.exp_neg _
    rw [e2, e3]
    have p : 0 < Real.exp (1 / 2 * r) := Real.exp_pos _
    field_simp
    ring

end Cert.Ret
end
end
-- ==== Proof.RetAt.lean ====
module
public import proofs.«01_k».proof.Proof.RetBody
public import proofs.«01_k».proof.Proof.RetSpec
@[expose] public section

/-! The kernel's body read at an index, against the recurrence of one sequence. -/

set_option maxRecDepth 16384
noncomputable section
namespace Cert.Ret
open Idealize.ShloMosaic Idealize.ShloMosaic.TcCoe Idealize.SL.Sem Cert.KernelIdeal Cert.KernelIdeal.Gen

/-- A lane's place in its head. -/
abbrev lane (l : ℕ) : Fin 64 := ⟨l % 64, Nat.mod_lt _ (by decide)⟩

/-- A row's place in its chunk. -/
abbrev inChunk (r : ℕ) : Fin 128 := ⟨r % 128, Nat.mod_lt _ (by decide)⟩

/-- The body's arrays hold chunks `n0 … n0 + 3` of the sequence `S`. -/
structure Fits (I : Ins) (S : Feed) (n0 : ℕ) : Prop where
  q : ∀ r c : Fin 512, I.q (ix2 r c) = S.q (c.val / 64) (n0 + r.val / 128) (inChunk r) (lane c)
  k : ∀ r c : Fin 512, I.k (ix2 r c) = S.k (c.val / 64) (n0 + r.val / 128) (inChunk r) (lane c)
  v : ∀ r c : Fin 512, I.v (ix2 r c) = S.v (c.val / 64) (n0 + r.val / 128) (inChunk r) (lane c)
  gate : ∀ r c : Fin 512, I.gate (ix2 r c) = S.gate (c.val / 64) (n0 + r.val / 128) (inChunk r) (lane c)
  qw : ∀ (i : Fin 128) (c : Fin 512), I.qw (ix2 i c) = S.qw (c.val / 64) i
  kw : ∀ (i : Fin 128) (c : Fin 512), I.kw (ix2 i c) = S.kw (c.val / 64) i
  cd : ∀ c : Fin 512, I.cd (ix2 0 c) = S.decay (c.val / 64)
  dm : ∀ (g : Fin 4) (i : Fin 128) (c : Fin 256), I.dm (ix3 g i c) = S.dm (2 * g.val + c.val / 128) i (inChunk c)
  own : ∀ (s : Fin 2) (l : Fin 128), I.own (ix2 s l) = if l.val / 64 = s.val then (1 : EReal) else 0
  bd : ∀ l l' : Fin 128, I.bd (ix2 l l') = if l.val / 64 = l'.val / 64 then (1 : EReal) else 0

/-- An entry of a tile. -/
theorem tile_at (x : FVec Ideal S512x512 .f32) (n g : ℕ) (i l : Fin 128) :
    tile x n g (ix2 i l) = x (ix2 ⟨128 * (n % 4) + i.val, by omega⟩ ⟨128 * (g % 4) + l.val, by omega⟩) := by
  unfold tile
  pointwise

/-- An entry of a head pair's decay mask. -/
theorem maskT_at (x : Vec Ideal S4x128x256 .f32) (g : ℕ) (i : Fin 128) (c : Fin 256) :
    maskT x g (ix2 i c) = x (ix3 ⟨g % 4, by omega⟩ i c) := by
  unfold maskT
  generalize maskFits g = hf
  have e : ∀ y : Vec Ideal S1x128x256 .f32, shapeCast S128x256 y shapeCasts_S1x128x256_S128x256 (ix2 i c) = y (ix3 0 i c) := fun y => by
    pointwise
  rw [e]
  show x _ = x _
  congr 1
  funext a
  match a with
  | ⟨0, _⟩ => rfl
  | ⟨1, _⟩ => exact Fin.ext (by show 0 + 1 * i.val = i.val; omega)
  | ⟨2, _⟩ => exact Fin.ext (by show 0 + 1 * c.val = c.val; omega)

/-- An entry of a head pair's weights. -/
theorem tab_at (x : Vec Ideal S128x512 .f32) (g : ℕ) (i c : Fin 128) :
    tab x g (ix2 i c) = x (ix2 i ⟨128 * (g % 4) + c.val, by omega⟩) := by
  unfold tab
  pointwise

/-- An entry of the gain. -/
theorem gain_at (k : FVec Ideal S128x128 .f32) (kw : Vec Ideal S128x128 .f32) (v : FVec Ideal S128x128 .f32) (l l' : Fin 128) :
    gain k kw v (ix2 l l') = ∑ j : Fin 128, (k (ix2 j l) * kw (ix2 j l)) * v (ix2 j l') := by
  unfold gain
  pointwise

/-- An entry of the two stacked copies. -/
theorem stack2_at (own : FVec Ideal S2x128 .bf16) (x : FVec Ideal S128x128 .f32) (c : Fin 256) (l : Fin 128) :
    stack2 own x (ix2 c l) = x (ix2 (inChunk c) l) * own (ix2 ⟨c.val / 128, by omega⟩ l) := by
  unfold stack2
  pointwise
  split
  · rename_i h
    have e1 : (⟨c.val, h⟩ : Fin 128) = inChunk c := Fin.ext (by show c.val = c.val % 128; omega)
    have e2 : (0 : Fin 2) = ⟨c.val / 128, by omega⟩ := Fin.ext (by show 0 = c.val / 128; omega)
    rw [e1, e2]
  · rename_i h
    have e1 : (⟨c.val - 128, by omega⟩ : Fin 128) = inChunk c := Fin.ext (by show c.val - 128 = c.val % 128; omega)
    have e2 : (1 : Fin 2) = ⟨c.val / 128, by omega⟩ := Fin.ext (by show 1 = c.val / 128; omega)
    rw [e1, e2]

/-- An entry of the scores. -/
theorem scores_at (own : FVec Ideal S2x128 .bf16) (q k : FVec Ideal S128x128 .f32) (dm : FVec Ideal S128x256 .f32) (i : Fin 128) (c : Fin 256) :
    scores own q k dm (ix2 i c) = (∑ l : Fin 128, q (ix2 i l) * stack2 own k (ix2 c l)) * dm (ix2 i c) := by
  unfold scores
  pointwise

/-- An entry of what the scores gather. -/
theorem within_at (own : FVec Ideal S2x128 .bf16) (sc : FVec Ideal S128x256 .f32) (v : FVec Ideal S128x128 .f32) (i l : Fin 128) :
    within own sc v (ix2 i l) = ∑ c : Fin 256, sc (ix2 i c) * stack2 own v (ix2 c l) := by
  unfold within
  pointwise

/-- An entry of what a tile gathers. -/
theorem gather_at (q : FVec Ideal S128x128 .f32) (qw : Vec Ideal S128x128 .f32) (st inn : FVec Ideal S128x128 .f32) (i l : Fin 128) :
    gather q qw st inn (ix2 i l) = inn (ix2 i l) + ∑ d : Fin 128, (q (ix2 i d) * qw (ix2 i d)) * st (ix2 d l) := by
  unfold gather
  pointwise

/-- An entry of the next state. -/
theorem advance_at (cd : FVec Ideal S1x512 .f32) (bd : Vec Ideal S128x128 .f32) (g : ℕ) (u st : FVec Ideal S128x128 .f32) (l l' : Fin 128)
    (hb : bd (ix2 l l') = if l.val / 64 = l'.val / 64 then (1 : EReal) else 0) :
    advance cd (k0_pay16 bd) g u st (ix2 l l') =
      st (ix2 l l') * cd (ix2 0 ⟨128 * (g % 4) + l'.val, by omega⟩) + if l.val / 64 = l'.val / 64 then u (ix2 l l') else 0 := by
  unfold advance
  pointwise [k0_pay16]
  rw [hb]
  by_cases e : l.val / 64 = l'.val / 64 <;> simp [e]

variable {I : Ins} {S : Feed} {n0 : ℕ}

/-- The carried states are the running states of a pair's two heads, on the diagonal blocks. -/
def Carries (S : Feed) (s : ℕ → FVec Ideal S128x128 .f32) (n : ℕ) : Prop :=
  ∀ g < 4, ∀ l l' : Fin 128, s g (ix2 l l') = if l.val / 64 = l'.val / 64 then S.run (2 * g + l.val / 64) n (lane l) (lane l') else 0

/-- Chunk after chunk, the carried states stay the running states. -/
theorem stateAt_eq (h : Fits I S n0) (s0 : ℕ → FVec Ideal S128x128 .f32) (h0 : Carries S s0 n0) :
    ∀ n ≤ 4, Carries S (fun g => stateAt I s0 g n) (n0 + n)
  | 0, _ => h0
  | n + 1, hn => by
    intro g hg l l'
    have ih := stateAt_eq h s0 h0 n (by omega) g hg l l'
    show advance I.cd (k0_pay16 I.bd) g (gain (tile I.k n g) (tab I.kw g) (tile I.v n g)) (stateAt I s0 g n) (ix2 l l') = _
    rw [advance_at _ _ _ _ _ _ _ (h.bd l l'), h.cd]
    simp only at ih
    rw [ih]
    by_cases hl : l.val / 64 = l'.val / 64
    · rw [if_pos hl, if_pos hl, if_pos hl, gain_at]
      have e : (128 * (g % 4) + l'.val) / 64 = 2 * g + l.val / 64 := by omega
      show _ * S.decay ((128 * (g % 4) + l'.val) / 64) + _ = S.run (2 * g + l.val / 64) (n0 + n) _ _ * _ + _
      rw [e]
      congr 1
      refine Finset.sum_congr rfl fun j _ => ?_
      rw [tile_at, tile_at, tab_at, h.k, h.v, h.kw]
      have e1 : (128 * (g % 4) + l.val) / 64 = 2 * g + l.val / 64 := by omega
      have e2 : (128 * (n % 4) + j.val) / 128 = n := by omega
      have e3 : inChunk (128 * (n % 4) + j.val) = j := Fin.ext (by show (128 * (n % 4) + j.val) % 128 = j.val; omega)
      have e4 : lane (128 * (g % 4) + l.val) = lane l := Fin.ext (by show (128 * (g % 4) + l.val) % 64 = l.val % 64; omega)
      have e5 : lane (128 * (g % 4) + l'.val) = lane l' := Fin.ext (by show (128 * (g % 4) + l'.val) % 64 = l'.val % 64; omega)
      simp only [e, e1, e2, e3, e4, e5]
      rfl
    · rw [if_neg hl, if_neg hl, if_neg hl, zero_mul, add_zero]

/-- What a chunk gathers in a head pair is what its two heads gather. -/
theorem gathered_eq (h : Fits I S n0) (s0 : ℕ → FVec Ideal S128x128 .f32) (h0 : Carries S s0 n0) (n g : ℕ) (hn : n < 4) (hg : g < 4) (i l : Fin 128) :
    gathered I s0 n g (ix2 i l) = S.got (2 * g + l.val / 64) (n0 + n) i (lane l) := by
  have hs : l.val / 64 < 2 := by omega
  have hst := stateAt_eq h s0 h0 n (by omega) g hg
  simp only at hst
  have en : ∀ j : Fin 128, (128 * (n % 4) + j.val) / 128 = n := fun j => by omega
  have ei : ∀ j : Fin 128, inChunk (128 * (n % 4) + j.val) = j := fun j => Fin.ext (by show (128 * (n % 4) + j.val) % 128 = j.val; omega)
  have el : ∀ j : Fin 128, lane (128 * (g % 4) + j.val) = lane j := fun j => Fin.ext (by show (128 * (g % 4) + j.val) % 64 = j.val % 64; omega)
  have eh : ∀ j : Fin 128, (128 * (g % 4) + j.val) / 64 = 2 * g + j.val / 64 := fun j => by omega
  have tq : ∀ j m : Fin 128, tile I.q n g (ix2 j m) = S.q (2 * g + m.val / 64) (n0 + n) j (lane m) := fun j m => by
    rw [tile_at, h.q]; simp only [en, ei, el, eh]
  have tk : ∀ j m : Fin 128, tile I.k n g (ix2 j m) = S.k (2 * g + m.val / 64) (n0 + n) j (lane m) := fun j m => by
    rw [tile_at, h.k]; simp only [en, ei, el, eh]
  have tv : ∀ j m : Fin 128, tile I.v n g (ix2 j m) = S.v (2 * g + m.val / 64) (n0 + n) j (lane m) := fun j m => by
    rw [tile_at, h.v]; simp only [en, ei, el, eh]
  have lh : ∀ d : Fin 64, (64 * (l.val / 64) + d.val) / 64 = l.val / 64 := fun d => by omega
  have ll : ∀ d : Fin 64, lane (64 * (l.val / 64) + d.val) = d := fun d => Fin.ext (by show (64 * (l.val / 64) + d.val) % 64 = d.val; omega)
  unfold gathered
  rw [gather_at, within_at]
  unfold Feed.got
  congr 1
  · refine (sum_block (N := 128) _ (l.val / 64) hs ?_).trans (Finset.sum_congr rfl fun j _ => ?_)
    · intro c hc
      rw [stack2_at, h.own, if_neg (fun e => hc e.symm), mul_zero, mul_zero]
    · have ec : (128 * (l.val / 64) + j.val) / 128 = l.val / 64 := by omega
      have ej : inChunk (128 * (l.val / 64) + j.val) = j := Fin.ext (by show (128 * (l.val / 64) + j.val) % 128 = j.val; omega)
      rw [stack2_at, h.own, scores_at, maskT_at, h.dm, tv]
      simp only [ec, ej, if_true, mul_one]
      have eg : g % 4 = g := Nat.mod_eq_of_lt hg
      rw [eg]
      congr 2
      refine (sum_block (N := 64) _ (l.val / 64) hs ?_).trans (Finset.sum_congr rfl fun d _ => ?_)
      · intro m hm
        rw [stack2_at, h.own]
        simp only [ec]
        rw [if_neg hm, mul_zero, mul_zero]
      · rw [stack2_at, h.own]
        simp only [ec, ej, lh, if_true, mul_one]
        rw [tq, tk]
        simp only [lh, ll]
  · refine (sum_block (N := 64) _ (l.val / 64) hs ?_).trans (Finset.sum_congr rfl fun d _ => ?_)
    · intro m hm
      rw [hst, if_neg hm, mul_zero]
    · rw [hst, tq, tab_at, h.qw]
      have e6 : (128 * (g % 4) + (64 * (l.val / 64) + d.val)) / 64 = 2 * g + l.val / 64 := by omega
      simp only [e6, lh, ll, if_true]

/-- An entry of the assembled block. -/
theorem assembled_at (Y : ℕ → ℕ → FVec Ideal S128x128 .f32) (r c : Fin 512) :
    assembled Y (ix2 r c) = Y (r.val / 128) (c.val / 128) (ix2 (inChunk r) (inChunk c)) := by
  have row : ∀ (n : ℕ) (i : Fin 128), sideBySide4 (Y n 0) (Y n 1) (Y n 2) (Y n 3) (ix2 i c) = Y n (c.val / 128) (ix2 i (inChunk c)) := by
    intro n i
    have pick : ∀ (b : ℕ) (l : Fin 128), c.val = 128 * b + l.val → Y n b (ix2 i l) = Y n (c.val / 128) (ix2 i (inChunk c)) := by
      intro b l hl
      have e1 : c.val / 128 = b := by omega
      have e2 : inChunk c = l := Fin.ext (by show c.val % 128 = l.val; omega)
      rw [e1, e2]
    unfold sideBySide4
    pointwise
    split
    · exact pick 0 _ (by simp)
    · split
      · exact pick 1 _ (by show c.val = 128 * 1 + (c.val - 128); omega)
      · split
        · exact pick 2 _ (by show c.val = 128 * 2 + (c.val - 128 - 128); omega)
        · exact pick 3 _ (by show c.val = 128 * 3 + (c.val - 128 - 128 - 128); omega)
  have pick : ∀ (n : ℕ) (i : Fin 128), r.val = 128 * n + i.val → sideBySide4 (Y n 0) (Y n 1) (Y n 2) (Y n 3) (ix2 i c) = Y (r.val / 128) (c.val / 128) (ix2 (inChunk r) (inChunk c)) := by
    intro n i hi
    have e1 : r.val / 128 = n := by omega
    have e2 : inChunk r = i := Fin.ext (by show r.val % 128 = i.val; omega)
    rw [row, e1, e2]
  unfold assembled above4
  pointwise
  split
  · exact pick 0 _ (by simp)
  · split
    · exact pick 1 _ (by show r.val = 128 * 1 + (r.val - 128); omega)
    · split
      · exact pick 2 _ (by show r.val = 128 * 2 + (r.val - 128 - 128); omega)
      · exact pick 3 _ (by show r.val = 128 * 3 + (r.val - 128 - 128 - 128); omega)

/-- An entry of the head sums. -/
theorem headSums_at (bd : Vec Ideal S128x128 .f32) (hb : ∀ l l' : Fin 128, bd (ix2 l l') = if l.val / 64 = l'.val / 64 then (1 : EReal) else 0)
    (y : FVec Ideal S512x512 .f32) (r c : Fin 512) :
    headSums bd y (ix2 r c) = ∑ d : Fin 64, y (ix2 r ⟨64 * (c.val / 64) + d.val, by omega⟩) := by
  have part : ∀ (b : ℕ) (hbb : b < 4) (l : Fin 128), c.val = 128 * b + l.val →
      (∑ x : Fin 128, y (ix2 r ⟨128 * b + x.val, by omega⟩) * bd (ix2 x l)) = ∑ d : Fin 64, y (ix2 r ⟨64 * (c.val / 64) + d.val, by omega⟩) := by
    intro b hbb l hl
    refine (sum_block (N := 64) _ (l.val / 64) (by omega) ?_).trans (Finset.sum_congr rfl fun d _ => ?_)
    · intro m hm
      rw [hb, if_neg hm, mul_zero]
    · have e : (64 * (l.val / 64) + d.val) / 64 = l.val / 64 := by omega
      rw [hb]
      simp only [e, if_true, mul_one]
      congr 2
      exact Fin.ext (by show 128 * b + (64 * (l.val / 64) + d.val) = 64 * (c.val / 64) + d.val; omega)
  unfold headSums
  pointwise [k0_pay126]
  split
  · rename_i h1
    refine Eq.trans (Finset.sum_congr rfl fun x _ => ?_) (part 0 (by decide) ⟨c.val, h1⟩ (by simp))
    congr 3
    exact Fin.ext (by simp)
  · rename_i h1
    split
    · rename_i h2
      exact part 1 (by decide) ⟨c.val - 128, h2⟩ (by show c.val = 128 * 1 + (c.val - 128); omega)
    · rename_i h2
      split
      · rename_i h3
        exact part 2 (by decide) ⟨c.val - 128 - 128, h3⟩ (by show c.val = 128 * 2 + (c.val - 128 - 128); omega)
      · rename_i h3
        exact part 3 (by decide) ⟨c.val - 128 - 128 - 128, by omega⟩ (by show c.val = 128 * 3 + (c.val - 128 - 128 - 128); omega)

/-- The stored rows are the result of the recurrence. -/
theorem blockOut_eq (h : Fits I S n0) (s0 : ℕ → FVec Ideal S128x128 .f32) (h0 : Carries S s0 n0) (r c : Fin 512) :
    blockOut I s0 (ix2 r c) = S.out (c.val / 64) (n0 + r.val / 128) (inChunk r) (lane c) := by
  have y_at : ∀ c : Fin 512, assembled (gathered I s0) (ix2 r c) = S.got (c.val / 64) (n0 + r.val / 128) (inChunk r) (lane c) := by
    intro c
    rw [assembled_at, gathered_eq h s0 h0 _ _ (by omega) (by omega)]
    have e1 : 2 * (c.val / 128) + c.val % 128 / 64 = c.val / 64 := by omega
    have e2 : lane (c.val % 128) = lane c := Fin.ext (by show c.val % 128 % 64 = c.val % 64; omega)
    show S.got (2 * (c.val / 128) + c.val % 128 / 64) _ _ (lane (c.val % 128)) = _
    rw [e1, e2]
  have eh : ∀ d : Fin 64, (64 * (c.val / 64) + d.val) / 64 = c.val / 64 := fun d => by omega
  have el : ∀ d : Fin 64, lane (64 * (c.val / 64) + d.val) = d := fun d => Fin.ext (by show (64 * (c.val / 64) + d.val) % 64 = d.val; omega)
  have cen : ∀ c : Fin 512, centred I.bd (assembled (gathered I s0)) (ix2 r c) = off (S.got (c.val / 64) (n0 + r.val / 128) (inChunk r)) (lane c) := by
    intro c
    have eh : ∀ d : Fin 64, (64 * (c.val / 64) + d.val) / 64 = c.val / 64 := fun d => by omega
    have el : ∀ d : Fin 64, lane (64 * (c.val / 64) + d.val) = d := fun d => Fin.ext (by show (64 * (c.val / 64) + d.val) % 64 = d.val; omega)
    unfold centred off
    pointwise
    rw [headSums_at _ h.bd]
    simp only [y_at, eh, el]
    rfl
  unfold blockOut finished
  pointwise
  rw [headSums_at _ h.bd, half_tanh, cen, h.gate]
  have sq : ∀ d : Fin 64, mulf (centred I.bd (assembled (gathered I s0))) (centred I.bd (assembled (gathered I s0))) (ix2 r ⟨64 * (c.val / 64) + d.val, by omega⟩)
      = off (S.got (c.val / 64) (n0 + r.val / 128) (inChunk r)) d * off (S.got (c.val / 64) (n0 + r.val / 128) (inChunk r)) d := by
    intro d
    show centred I.bd (assembled (gathered I s0)) _ * centred I.bd (assembled (gathered I s0)) _ = _
    rw [cen]
    simp only [eh, el]
  simp only [sq]
  rfl

end Cert.Ret
end
end
-- ==== Proof.RetIns.lean ====
module
public import proofs.«01_k».proof.Proof.RetAt
public import Idealize.ShloMosaic.Lib.StableHlo.ReadAt
@[expose] public section

/-! What one grid point of the kernel reads: its rows of the projected sequence, and the tables the host builds. -/

set_option maxRecDepth 16384
noncomputable section
namespace Cert.Ret
open Idealize.ShloMosaic Idealize.ShloMosaic.TcCoe Idealize.SL.Sem Cert.KernelIdeal Cert.KernelIdeal.Gen

/-- A count as a number. -/
def num (n : ℕ) : EReal := FloatOps.sitofp (F := Ideal) FTy.f32 (BitVec.ofNat 32 n)

/-- The angle of position `p` at frequency `f`. -/
def angle (p f : ℕ) : EReal :=
  num p * Ideal.pow (Ideal.ofBits FTy.f32 0x461C4000#32) (Ideal.div (-num f) (Ideal.ofBits FTy.f32 0x42000000#32))

/-- The logarithm of head `h`'s decay. -/
def logDecay (h : ℕ) : EReal :=
  Ideal.log (1 - Ideal.pow (Ideal.ofBits FTy.f32 0x40000000#32) (Ideal.ofBits FTy.f32 0xC0A00000#32 - num h))

/-- An array's entry, by numbers. -/
def entry (x : S32768x2048.Idx → EReal) (r c : ℕ) : EReal :=
  if h : r < 32768 ∧ c < 2048 then x (ix2 ⟨r, h.1⟩ ⟨c, h.2⟩) else 0

theorem entry_eq (x : S32768x2048.Idx → EReal) (r : Fin 32768) (c : Fin 2048) : entry x r.val c.val = x (ix2 r c) :=
  dif_pos ⟨r.isLt, c.isLt⟩

/-- Lane `d` of a head whose entries are `z`, rotated by the angles `a`. -/
def turned (z : ℕ → EReal) (a : ℕ → EReal) (d : ℕ) : EReal :=
  if d < 32 then z d * Ideal.cos (a d) - z (d + 32) * Ideal.sin (a d)
  else z (d - 32) * Ideal.sin (a (d - 32)) + z d * Ideal.cos (a (d - 32))

/-- What sequence `b` of the projected array gives the recurrence. -/
def feed (x : S32768x2048.Idx → EReal) (b : ℕ) : Feed where
  q h n i d := turned (fun e => entry x (2048 * b + (128 * n + i.val)) (64 * h + e)) (angle (128 * n + i.val)) d
  k h n i d := turned (fun e => entry x (2048 * b + (128 * n + i.val)) (512 + (64 * h + e))) (angle (128 * n + i.val)) d
    * Ideal.ofBits FTy.f32 0x3E000000#32
  v h n i d := entry x (2048 * b + (128 * n + i.val)) (1024 + (64 * h + d.val))
  gate h n i d := entry x (2048 * b + (128 * n + i.val)) (1536 + (64 * h + d.val))
  dm h i j := if 0 ≤ num i - num j then Ideal.exp (logDecay h * max (num i - num j) 0) else 0
  qw h i := Ideal.exp (logDecay h * (num i + 1))
  kw h j := Ideal.exp (logDecay h * (Ideal.ofBits FTy.f32 0x42FE0000#32 - num j))
  decay h := Ideal.exp (logDecay h * Ideal.ofBits FTy.f32 0x43000000#32)

variable (m : (ℓ : Loc nD τ sig) → Buf (Elt Ideal) ℓ)

/-- The whole-number quotient by sixty-four, as the host finds it. -/
def quot (x : BitVec 32) : BitVec 32 :=
  Scalar.select
    (IntOp.andi
      (IntOp.cmpi CmpIPredicate.ne (if x = 0 then (0 : BitVec 32) else if x.msb = true then (-1 : BitVec 32) else (1 : BitVec 32))
        (if id (constantI S_ 32 64#32) ix0 = 0 then (0 : BitVec 32) else if BitVec.msb (id (constantI S_ 32 64#32) ix0) = true then (-1 : BitVec 32) else (1 : BitVec 32)))
      (IntOp.cmpi CmpIPredicate.ne (IntOp.remsi ArithUnit.host x (id (constantI S_ 32 64#32) ix0)) 0#32))
    (IntOp.subi (IntOp.divsi ArithUnit.host x (id (constantI S_ 32 64#32) ix0)) 1#32)
    (IntOp.divsi ArithUnit.host x (id (constantI S_ 32 64#32) ix0))

theorem quot_eq : ∀ g : Fin 128, quot (BitVec.ofNat 32 g.val) = BitVec.ofNat 32 (g.val / 64) := by decide +kernel

/-- Whether a lane lies in the first half of its head, as the kernel finds it. -/
def early (x : BitVec 32) : BitVec 1 :=
  IntOp.cmpi CmpIPredicate.slt
    (Scalar.select
      (IntOp.andi
        (IntOp.xori
          (IntOp.cmpi CmpIPredicate.slt
            (IntOp.remsi ArithUnit.vector x (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector x (Scalar.select (Scalar.cmpi CmpIPredicate.eq 64#32 0#32) 1#32 64#32)) 0#32))
      (IntOp.addi
        (IntOp.remsi ArithUnit.vector x (Scalar.select (Scalar.cmpi CmpIPredicate.eq 64#32 0#32) 1#32 64#32))
        (Scalar.select (Scalar.cmpi CmpIPredicate.eq 64#32 0#32) 1#32 64#32))
      (IntOp.remsi ArithUnit.vector x (Scalar.select (Scalar.cmpi CmpIPredicate.eq 64#32 0#32) 1#32 64#32)))
    32#32

theorem early_eq : ∀ l : Fin 512, early (BitVec.ofNat 32 l.val) = if l.val % 64 < 32 then 1#1 else 0#1 := by decide +kernel

/-- Equal small whole numbers, told by a flag. -/
theorem flag_eq : ∀ a b : Fin 2, IntOp.cmpi CmpIPredicate.eq (BitVec.ofNat 32 a.val) (BitVec.ofNat 32 b.val) = if a.val = b.val then 1#1 else 0#1 := by
  decide +kernel

theorem flag_num (φ : FTy) (p : Prop) [Decidable p] : FloatOps.uitofp (F := Ideal) φ (if p then 1#1 else 0#1 : BitVec 1) = if p then (1 : EReal) else 0 := by
  split <;> simp [FloatOps.uitofp]

/-- The table of head indicators over the lanes of a pair. -/
theorem own_at (c : Dev nD) (s : Fin 2) (l : Fin 128) :
    (V m c main_v59 : S2x128.Idx → EReal) (ix2 s l) = if l.val / 64 = s.val then (1 : EReal) else 0 := by
  unfold V
  after_reads_at
  refine Eq.trans (b := FloatOps.uitofp (F := Ideal) FTy.bf16 (IntOp.cmpi CmpIPredicate.eq (quot (BitVec.ofNat 32 l.val)) (BitVec.ofNat 32 s.val))) rfl ?_
  rw [quot_eq, flag_eq ⟨l.val / 64, by omega⟩ s, flag_num]

/-- The table that keeps two heads' lanes apart. -/
theorem bd_at (c : Dev nD) (g l : Fin 128) :
    (V m c main_v93 : S128x128.Idx → EReal) (ix2 g l) = if g.val / 64 = l.val / 64 then (1 : EReal) else 0 := by
  unfold V
  after_reads_at
  refine Eq.trans (b := FloatOps.uitofp (F := Ideal) FTy.f32 (IntOp.cmpi CmpIPredicate.eq (quot (BitVec.ofNat 32 g.val)) (quot (BitVec.ofNat 32 l.val)))) rfl ?_
  rw [quot_eq, quot_eq, flag_eq ⟨g.val / 64, by omega⟩ ⟨l.val / 64, by omega⟩, flag_num]

/-- The query weights by row and lane. -/
theorem qw_at (c : Dev nD) (x : S32768x2048.Idx → EReal) (b : ℕ) (i : Fin 128) (l : Fin 512) :
    (V m c main_v69 : S128x512.Idx → EReal) (ix2 i l) = (feed x b).qw (l.val / 64) i := by
  unfold V
  after_reads_at
  rfl

/-- The key weights by row and lane. -/
theorem kw_at (c : Dev nD) (x : S32768x2048.Idx → EReal) (b : ℕ) (i : Fin 128) (l : Fin 512) :
    (V m c main_v79 : S128x512.Idx → EReal) (ix2 i l) = (feed x b).kw (l.val / 64) i := by
  unfold V
  after_reads_at
  rfl

/-- The decay of a whole chunk, by lane. -/
theorem cd_at (c : Dev nD) (x : S32768x2048.Idx → EReal) (b : ℕ) (l : Fin 512) :
    (V m c main_v85 : S1x512.Idx → EReal) (ix2 0 l) = (feed x b).decay (l.val / 64) := by
  unfold V
  after_reads_at
  rfl

/-- The decay between two rows of a chunk, two heads side by side. -/
theorem dm_at (c : Dev nD) (x : S32768x2048.Idx → EReal) (b : ℕ) (g : Fin 4) (i : Fin 128) (l : Fin 256) :
    (V m c main_v50 : S4x128x256.Idx → EReal) (ix3 g i l) = (feed x b).dm (2 * g.val + l.val / 128) i (inChunk l) := by
  unfold V
  after_reads_at
  rw [Nat.mul_comm g.val 2]
  have e : (id (constant (F := Ideal) S_ FTy.f32 0#32) ix0 : EReal) = 0 := Ideal.ofBits_zero_f32
  simp only [feed, logDecay, num, e]
  exact if_congr Iff.rfl rfl rfl

/-- The cosines, by position and lane. -/
theorem cos_at (c : Dev nD) (p : Fin 2048) (l : Fin 512) :
    (V m c main_v15 : S2048x512.Idx → EReal) (ix2 p l) = Ideal.cos (angle p (l.val % 32)) := by
  unfold V
  after_reads_at
  rfl

/-- The sines, by position and lane, negative over the first half of a head. -/
theorem sin_at (c : Dev nD) (p : Fin 2048) (l : Fin 512) :
    (V m c main_v22 : S2048x512.Idx → EReal) (ix2 p l) = if l.val % 64 < 32 then -Ideal.sin (angle p (l.val % 32)) else Ideal.sin (angle p (l.val % 32)) := by
  unfold V
  after_reads_at
  split
  · rename_i h
    rw [show l.val % 32 = l.val % 64 by omega]
    after_reads_at
    rfl
  · rename_i h
    rw [show l.val % 32 = l.val % 64 - 32 by omega]
    after_reads_at
    rfl

theorem rows0 : ∀ t : Fin cfg0.N, win0_0.index t 0 = t.val ∧ win0_0.index t 1 = 0 :=
  (by decide +kernel : ∀ t : Fin grid0.N, win0_0.index t 0 = t.val ∧ win0_0.index t 1 = 0)
theorem rows1 : ∀ t : Fin cfg0.N, win0_1.index t 0 = t.val % 4 ∧ win0_1.index t 1 = 0 :=
  (by decide +kernel : ∀ t : Fin grid0.N, win0_1.index t 0 = t.val % 4 ∧ win0_1.index t 1 = 0)
theorem rows2 : ∀ t : Fin cfg0.N, win0_2.index t 0 = t.val % 4 ∧ win0_2.index t 1 = 0 :=
  (by decide +kernel : ∀ t : Fin grid0.N, win0_2.index t 0 = t.val % 4 ∧ win0_2.index t 1 = 0)

theorem whole3 : ∀ t : Fin cfg0.N, win0_3.index t 0 = 0 ∧ win0_3.index t 1 = 0 :=
  (by decide +kernel : ∀ t : Fin grid0.N, win0_3.index t 0 = 0 ∧ win0_3.index t 1 = 0)
theorem whole4 : ∀ t : Fin cfg0.N, win0_4.index t 0 = 0 ∧ win0_4.index t 1 = 0 :=
  (by decide +kernel : ∀ t : Fin grid0.N, win0_4.index t 0 = 0 ∧ win0_4.index t 1 = 0)
theorem whole5 : ∀ t : Fin cfg0.N, win0_5.index t 0 = 0 ∧ win0_5.index t 1 = 0 :=
  (by decide +kernel : ∀ t : Fin grid0.N, win0_5.index t 0 = 0 ∧ win0_5.index t 1 = 0)
theorem whole7 : ∀ t : Fin cfg0.N, win0_7.index t 0 = 0 ∧ win0_7.index t 1 = 0 :=
  (by decide +kernel : ∀ t : Fin grid0.N, win0_7.index t 0 = 0 ∧ win0_7.index t 1 = 0)
theorem whole8 : ∀ t : Fin cfg0.N, win0_8.index t 0 = 0 ∧ win0_8.index t 1 = 0 :=
  (by decide +kernel : ∀ t : Fin grid0.N, win0_8.index t 0 = 0 ∧ win0_8.index t 1 = 0)
theorem whole6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)

/-- The projected rows a point reads. -/
theorem z_at (c : Dev nD) (t : Fin cfg0.N) (r : Fin 512) (col : Fin 2048) :
    (iblk m c 0 t : S512x2048.Idx → EReal) (ix2 r col)
      = entry (m ((c.tc : Thread nD τ).loc main_arg0) : S32768x2048.Idx → EReal) (2048 * (t.val / 4) + (128 * (4 * (t.val % 4) + r.val / 128) + r.val % 128)) col.val := by
  have ht := t.isLt
  have hN : cfg0.N = 64 := by decide
  have e : 2048 * (t.val / 4) + (128 * (4 * (t.val % 4) + r.val / 128) + r.val % 128) = (⟨512 * t.val + r.val, by omega⟩ : Fin 32768).val := by
    show _ = 512 * t.val + r.val
    omega
  rw [e, entry_eq]
  blk_ext [iblk, V, rows0 t]

theorem cos_blk (c : Dev nD) (t : Fin cfg0.N) (i : Fin 512) (col : Fin 512) :
    (iblk m c 1 t : S512x512.Idx → EReal) (ix2 i col) = Ideal.cos (angle (128 * (4 * (t.val % 4) + i.val / 128) + i.val % 128) (col.val % 32)) := by
  have e : 128 * (4 * (t.val % 4) + i.val / 128) + i.val % 128 = (⟨512 * (t.val % 4) + i.val, by omega⟩ : Fin 2048).val := by
    show _ = 512 * (t.val % 4) + i.val
    omega
  rw [e, ← cos_at m c]
  blk_ext [iblk, rows1 t]

theorem sin_blk (c : Dev nD) (t : Fin cfg0.N) (i : Fin 512) (col : Fin 512) :
    (iblk m c 2 t : S512x512.Idx → EReal) (ix2 i col) = if col.val % 64 < 32 then -Ideal.sin (angle (128 * (4 * (t.val % 4) + i.val / 128) + i.val % 128) (col.val % 32)) else Ideal.sin (angle (128 * (4 * (t.val % 4) + i.val / 128) + i.val % 128) (col.val % 32)) := by
  have e : 128 * (4 * (t.val % 4) + i.val / 128) + i.val % 128 = (⟨512 * (t.val % 4) + i.val, by omega⟩ : Fin 2048).val := by
    show _ = 512 * (t.val % 4) + i.val
    omega
  rw [e, ← sin_at m c]
  blk_ext [iblk, rows2 t]

/-- The rotation as the kernel takes it: a lane exchange chosen by half, against signed sines. -/
theorem exchange (z : ℕ → EReal) (o : ℕ) (a : ℕ → EReal) (l : Fin 512) :
    z (o + l.val) * Ideal.cos (a (l.val % 32)) + Scalar.select (early (BitVec.ofNat 32 l.val)) (z (o + (l.val + 512 - 480) % 512)) (z (o + (l.val + 512 - 32) % 512))
        * (if l.val % 64 < 32 then -Ideal.sin (a (l.val % 32)) else Ideal.sin (a (l.val % 32)))
      = turned (fun e => z (o + (64 * (l.val / 64) + e))) a (l.val % 64) := by
  rw [early_eq]
  unfold turned
  have hl := l.isLt
  by_cases h : l.val % 64 < 32
  · rw [if_pos h, if_pos h, if_pos h]
    have e1 : l.val % 32 = l.val % 64 := by omega
    have e2 : (l.val + 512 - 480) % 512 = 64 * (l.val / 64) + (l.val % 64 + 32) := by omega
    have e3 : 64 * (l.val / 64) + l.val % 64 = l.val := by omega
    simp only [Scalar.select, e1, e2, e3]
    rw [if_pos (by decide), mul_neg, ← sub_eq_add_neg]
  · rw [if_neg h, if_neg h, if_neg h]
    have e1 : l.val % 32 = l.val % 64 - 32 := by omega
    have e2 : (l.val + 512 - 32) % 512 = 64 * (l.val / 64) + (l.val % 64 - 32) := by omega
    have e3 : 64 * (l.val / 64) + l.val % 64 = l.val := by omega
    simp only [Scalar.select, e1, e2, e3]
    rw [if_neg (by decide), add_comm]

theorem fits_q (c : Dev nD) (t : Fin cfg0.N) (r l : Fin 512) :
    (k0_pay7 (iblk m c 0 t) (iblk m c 1 t) (iblk m c 2 t) : FVec Ideal S512x512 .f32) (ix2 r l)
      = turned (fun e => entry (m ((c.tc : Thread nD τ).loc main_arg0) : S32768x2048.Idx → EReal) (2048 * (t.val / 4) + (128 * (4 * (t.val % 4) + r.val / 128) + r.val % 128)) (0 + (64 * (l.val / 64) + e))) (angle (128 * (4 * (t.val % 4) + r.val / 128) + r.val % 128)) (l.val % 64) := by
  rw [← exchange (entry (m ((c.tc : Thread nD τ).loc main_arg0) : S32768x2048.Idx → EReal) (2048 * (t.val / 4) + (128 * (4 * (t.val % 4) + r.val / 128) + r.val % 128))) 0 (angle (128 * (4 * (t.val % 4) + r.val / 128) + r.val % 128)) l]
  pointwise [k0_pay7, k0_pay4, k0_pay5, k0_pay6, k0_pay8, k0_pay9, k0_pay10, k0_pay3]
  rw [z_at, z_at, z_at, cos_blk, sin_blk]
  simp only [Nat.zero_add]
  rfl

theorem fits_k (c : Dev nD) (t : Fin cfg0.N) (r l : Fin 512) :
    (k0_pay11 k0_pay4 (k0_pay5 (iblk m c 1 t)) (k0_pay6 (iblk m c 2 t)) (k0_pay8 (iblk m c 0 t)) (k0_pay9 (iblk m c 0 t)) (k0_pay10 (iblk m c 0 t)) : FVec Ideal S512x512 .f32) (ix2 r l)
      = turned (fun e => entry (m ((c.tc : Thread nD τ).loc main_arg0) : S32768x2048.Idx → EReal) (2048 * (t.val / 4) + (128 * (4 * (t.val % 4) + r.val / 128) + r.val % 128)) (512 + (64 * (l.val / 64) + e))) (angle (128 * (4 * (t.val % 4) + r.val / 128) + r.val % 128)) (l.val % 64) * Ideal.ofBits FTy.f32 0x3E000000#32 := by
  rw [← exchange (entry (m ((c.tc : Thread nD τ).loc main_arg0) : S32768x2048.Idx → EReal) (2048 * (t.val / 4) + (128 * (4 * (t.val % 4) + r.val / 128) + r.val % 128))) 512 (angle (128 * (4 * (t.val % 4) + r.val / 128) + r.val % 128)) l]
  pointwise [k0_pay11, k0_pay7, k0_pay4, k0_pay5, k0_pay6, k0_pay8, k0_pay9, k0_pay10, k0_pay3]
  rw [z_at, z_at, z_at, cos_blk, sin_blk]
  rfl

theorem fits_v (c : Dev nD) (t : Fin cfg0.N) (r l : Fin 512) :
    (k0_pay12 (k0_pay3 (iblk m c 0 t)) : FVec Ideal S512x512 .f32) (ix2 r l)
      = entry (m ((c.tc : Thread nD τ).loc main_arg0) : S32768x2048.Idx → EReal) (2048 * (t.val / 4) + (128 * (4 * (t.val % 4) + r.val / 128) + r.val % 128)) (1024 + (64 * (l.val / 64) + l.val % 64)) := by
  pointwise [k0_pay12, k0_pay3]
  rw [z_at, Nat.div_add_mod]

theorem fits_gate (c : Dev nD) (t : Fin cfg0.N) (r l : Fin 512) :
    (k0_pay13 (k0_pay3 (iblk m c 0 t)) : FVec Ideal S512x512 .f32) (ix2 r l)
      = entry (m ((c.tc : Thread nD τ).loc main_arg0) : S32768x2048.Idx → EReal) (2048 * (t.val / 4) + (128 * (4 * (t.val % 4) + r.val / 128) + r.val % 128)) (1536 + (64 * (l.val / 64) + l.val % 64)) := by
  pointwise [k0_pay13, k0_pay3]
  rw [z_at, Nat.div_add_mod]

theorem fits_qw (c : Dev nD) (t : Fin cfg0.N) (i : Fin 128) (l : Fin 512) :
    (iblk m c 3 t : S128x512.Idx → EReal) (ix2 i l) = (V m c main_v69 : S128x512.Idx → EReal) (ix2 i l) := by
  blk_ext [iblk, whole3 t]

theorem fits_kw (c : Dev nD) (t : Fin cfg0.N) (i : Fin 128) (l : Fin 512) :
    (iblk m c 4 t : S128x512.Idx → EReal) (ix2 i l) = (V m c main_v79 : S128x512.Idx → EReal) (ix2 i l) := by
  blk_ext [iblk, whole4 t]

theorem fits_cd (c : Dev nD) (t : Fin cfg0.N) (l : Fin 512) :
    (iblk m c 5 t : S1x512.Idx → EReal) (ix2 0 l) = (V m c main_v85 : S1x512.Idx → EReal) (ix2 0 l) := by
  blk_ext [iblk, whole5 t]

theorem fits_dm (c : Dev nD) (t : Fin cfg0.N) (g : Fin 4) (i : Fin 128) (l : Fin 256) :
    (iblk m c 6 t : S4x128x256.Idx → EReal) (ix3 g i l) = (V m c main_v50 : S4x128x256.Idx → EReal) (ix3 g i l) := by
  blk_ext [iblk, whole6 t]

theorem fits_own (c : Dev nD) (t : Fin cfg0.N) (s : Fin 2) (l : Fin 128) :
    (iblk m c 7 t : S2x128.Idx → EReal) (ix2 s l) = (V m c main_v59 : S2x128.Idx → EReal) (ix2 s l) := by
  blk_ext [iblk, whole7 t]

theorem fits_bd (c : Dev nD) (t : Fin cfg0.N) (s l : Fin 128) :
    (iblk m c 8 t : S128x128.Idx → EReal) (ix2 s l) = (V m c main_v93 : S128x128.Idx → EReal) (ix2 s l) := by
  blk_ext [iblk, whole8 t]

theorem pay14_at (x : FVec Ideal S1x512 .f32) (l : Fin 512) : (k0_pay14 x : FVec Ideal S1x512 .f32) (ix2 0 l) = x (ix2 0 l) := by
  pointwise [k0_pay14]

theorem pay15_at (x : FVec Ideal S2x128 .f32) (s : Fin 2) (l : Fin 128) : ((k0_pay15 x : FVec Ideal S2x128 .bf16) (ix2 s l) : EReal) = x (ix2 s l) := by
  pointwise [k0_pay15]

set_option maxHeartbeats 2000000 in
/-- The numbers a point reads are those of its four chunks of its sequence. -/
theorem fits (c : Dev nD) (t : Fin cfg0.N) :
    Fits (insAt m c t) (feed (m ((c.tc : Thread nD τ).loc main_arg0)) (t.val / 4)) (4 * (t.val % 4)) where
  q r l := by
    refine (fits_q m c t r l).trans ?_
    simp only [Nat.zero_add]
    rfl
  k r l := fits_k m c t r l
  v r l := fits_v m c t r l
  gate r l := fits_gate m c t r l
  qw i l := (fits_qw m c t i l).trans (qw_at m c _ _ i l)
  kw i l := (fits_kw m c t i l).trans (kw_at m c _ _ i l)
  cd l := (pay14_at _ l).trans ((fits_cd m c t l).trans (cd_at m c _ _ l))
  dm g i l := (fits_dm m c t g i l).trans (dm_at m c _ _ g i l)
  own s l := (pay15_at _ s l).trans ((fits_own m c t s l).trans (own_at m c s l))
  bd l l' := (fits_bd m c t l l').trans (bd_at m c l l')

end Cert.Ret
end
end
-- ==== Proof.RetFold.lean ====
module
public import proofs.«01_k».proof.Proof.RetIns
public import proofs.«01_k».proof.Proof.Gen.KernelIdeal.Value
@[expose] public section

/-! The kernel's result array: the grid carries the running states from point to point, afresh for each sequence. -/

set_option maxRecDepth 16384
noncomputable section
namespace Cert.Ret
open Idealize.ShloMosaic Idealize.ShloMosaic.TcCoe Idealize.SL.Sem Cert.KernelIdeal Cert.KernelIdeal.Gen Cert.KernelIdeal.Value

variable (m : (ℓ : Loc nD τ sig) → Buf (Elt Ideal) ℓ)

/-- The projected array as the run finds it. -/
abbrev given (c : Dev nD) : S32768x2048.Idx → EReal := m ((c.tc : Thread nD τ).loc main_arg0)

/-- The cleared scratch holds zeros. -/
theorem zeros : k0_pay2 (F := Ideal) = fun _ => (0 : EReal) := by
  funext i
  exact Ideal.ofBits_zero_f32

/-- Zero states are the running states of a sequence that begins. -/
theorem carries_zero (S : Feed) : Carries S (stateT (k0_pay2 (F := Ideal))) 0 := by
  intro g hg l l'
  have e : stateT (k0_pay2 (F := Ideal)) g (ix2 l l') = (0 : EReal) := by
    rw [zeros]
    rfl
  rw [e]
  split <;> rfl

/-- What the carried states are before a point, by whether it begins a sequence. -/
theorem carries_after (c : Dev nD) : ∀ (n : ℕ) (h : n < cfg0.N),
    Carries (feed (given m c) (n / 4)) (stateT (outsAt0 m c n h).2) (4 * (n % 4) + 4) := by
  intro n
  induction n with
  | zero =>
    intro h g hg
    rw [state_A m c ⟨0, h⟩ rfl g hg]
    exact stateAt_eq (fits m c ⟨0, h⟩) _ (carries_zero _) 4 (le_refl _) g hg
  | succ n ih =>
    intro h g hg
    by_cases h0 : (n + 1) % 4 = 0
    · rw [state_A m c ⟨n + 1, h⟩ h0 g hg]
      refine stateAt_eq (fits m c ⟨n + 1, h⟩) _ ?_ 4 (le_refl _) g hg
      show Carries _ _ (4 * ((n + 1) % 4))
      rw [h0]
      exact carries_zero _
    · rw [state_B m c ⟨n + 1, h⟩ h0 g hg]
      refine stateAt_eq (fits m c ⟨n + 1, h⟩) _ ?_ 4 (le_refl _) g hg
      have e1 : n / 4 = (n + 1) / 4 := by omega
      have e2 : 4 * (n % 4) + 4 = 4 * ((n + 1) % 4) := by omega
      show Carries (feed (given m c) ((n + 1) / 4)) _ (4 * ((n + 1) % 4))
      rw [← e1, ← e2]
      exact ih (by omega)

/-- The rows a point stores. -/
theorem stored (c : Dev nD) (n : ℕ) (h : n < cfg0.N) (r l : Fin 512) :
    (outsAt0 m c n h).1 (ix2 r l) = (feed (given m c) (n / 4)).out (l.val / 64) (4 * (n % 4) + r.val / 128) (inChunk r) (lane l) := by
  by_cases h0 : n % 4 = 0
  · rw [out_A m c ⟨n, h⟩ h0]
    refine blockOut_eq (fits m c ⟨n, h⟩) _ ?_ r l
    show Carries _ _ (4 * (n % 4))
    rw [h0]
    exact carries_zero _
  · rw [out_B m c ⟨n, h⟩ h0]
    refine blockOut_eq (fits m c ⟨n, h⟩) _ ?_ r l
    have e1 : (n - 1) / 4 = n / 4 := by omega
    have e2 : 4 * ((n - 1) % 4) + 4 = 4 * (n % 4) := by omega
    show Carries (feed (given m c) (n / 4)) _ (4 * (n % 4))
    rw [← e1, ← e2]
    exact carries_after m c _ _

/-- The kernel's result, entry by entry: row `r` is position `r % 2048` of sequence `r / 2048`. -/
theorem result_at (c : Dev nD) (r : Fin 32768) (l : Fin 512) :
    (G9 m c : S32768x512.Idx → EReal) (ix2 r l)
      = (feed (given m c) (r.val / 2048)).out (l.val / 64) (r.val % 2048 / 128) (inChunk r) (lane l) := by
  have hN : cfg0.N = 64 := N_0
  have hp : pt9Of (ix2 r l) = r.val / 512 := by
    show 1 * (r.val / 512 - 0) + 1 * (l.val / 512 - 0) = r.val / 512
    omega
  have hl : loc9Of (ix2 r l) = ix2 (⟨r.val % 512, Nat.mod_lt _ (by decide)⟩ : Fin 512) l := by
    funext a
    apply Fin.ext
    match a with
    | ⟨0, _⟩ => rfl
    | ⟨1, _⟩ => show l.val % 512 = l.val; omega
  have hlt : r.val / 512 < cfg0.N := by omega
  unfold G9
  rw [dif_pos (by rw [hp]; exact hlt), hl, fold0_congr m c _ _ (r.val / 512) (by omega) hp, ← outsAt0_sweep m c _ hlt]
  refine (stored m c _ hlt _ l).trans ?_
  have e1 : r.val / 512 / 4 = r.val / 2048 := by omega
  have e2 : 4 * (r.val / 512 % 4) + r.val % 512 / 128 = r.val % 2048 / 128 := by omega
  have e3 : inChunk (r.val % 512) = inChunk r := Fin.ext (by show r.val % 512 % 128 = r.val % 128; omega)
  show (feed (given m c) (r.val / 512 / 4)).out _ (4 * (r.val / 512 % 4) + r.val % 512 / 128) (inChunk (r.val % 512)) _ = _
  rw [e1, e2, e3]

end Cert.Ret
end
end
-- ==== Proof.RefRead.lean ====
module
public import proofs.«01_k».proof.Proof.RetIns
public import proofs.«01_k».proof.Proof.Gen.ReferenceIdeal.Step
@[expose] public section

/-! The reference's chunked queries, keys and values and its tables, entry by entry: they are the numbers the kernel
reads. -/

set_option maxRecDepth 16384
noncomputable section
namespace Cert.Ret
open Idealize.ShloMosaic Idealize.ShloMosaic.TcCoe Idealize.SL.Sem Cert.ReferenceIdeal Cert.ReferenceIdeal.Gen Cert.ReferenceIdeal.Step

variable (x : S32768x2048.Idx → EReal)

/-- An entry whose place is written in another order of the same sums. -/
theorem entry_of (r c r' c' : ℕ) (hr : r < 32768) (hc : c < 2048) (er : r = r') (ec : c = c') : x (ix2 ⟨r, hr⟩ ⟨c, hc⟩) = entry x r' c' := by
  subst er; subst ec
  exact (entry_eq x ⟨r, hr⟩ ⟨c, hc⟩).symm

theorem cosq (p : Fin 2048) (f : Fin 32) : (K_main_v24 (F := Ideal) : S2048x32.Idx → EReal) (ix2 p f) = Ideal.cos (angle p.val f.val) := by
  pointwise [K_main_v24, K_main_v23, K_main_v22, K_main_v20, K_main_v18, K_main_v16, K_main_v15, K_main_cst, K_main_v14, K_main_v13, K_main_v17, K_main_cst_0, K_main_v21, K_main_v19, K_main_v12]
  rfl

theorem sinq (p : Fin 2048) (f : Fin 32) : (K_main_v26 (F := Ideal) : S2048x32.Idx → EReal) (ix2 p f) = Ideal.sin (angle p.val f.val) := by
  pointwise [K_main_v26, K_main_v23, K_main_v22, K_main_v20, K_main_v18, K_main_v16, K_main_v15, K_main_cst, K_main_v14, K_main_v13, K_main_v17, K_main_cst_0, K_main_v21, K_main_v19, K_main_v12]
  rfl

theorem cosk (p : Fin 2048) (f : Fin 32) : (K_main_v52 (F := Ideal) : S2048x32.Idx → EReal) (ix2 p f) = Ideal.cos (angle p.val f.val) := by
  pointwise [K_main_v52, K_main_v51, K_main_v50, K_main_v48, K_main_v46, K_main_v44, K_main_v43, K_main_cst_1, K_main_v42, K_main_v41, K_main_v45, K_main_cst_2, K_main_v49, K_main_v47, K_main_v12]
  rfl

theorem sink (p : Fin 2048) (f : Fin 32) : (K_main_v54 (F := Ideal) : S2048x32.Idx → EReal) (ix2 p f) = Ideal.sin (angle p.val f.val) := by
  pointwise [K_main_v54, K_main_v51, K_main_v50, K_main_v48, K_main_v46, K_main_v44, K_main_v43, K_main_cst_1, K_main_v42, K_main_v41, K_main_v45, K_main_cst_2, K_main_v49, K_main_v47, K_main_v12]
  rfl

/-- The query columns by sequence, position, head and lane. -/
theorem query_raw (b : Fin 16) (p : Fin 2048) (h : Fin 8) (e : Fin 64) :
    (A_main_v9 (F := Ideal) x : S16x2048x8x64.Idx → EReal) (ix4 b p h e) = entry x (2048 * b.val + p.val) (64 * h.val + e.val) := by
  pointwise [A_main_v9, A_main_v2, A_main_v1, A_main_v0]
  exact entry_of x _ _ _ _ _ _ (by omega) (by omega)

/-- The query columns rotated. -/
theorem query_turned (b : Fin 16) (p : Fin 2048) (h : Fin 8) (e : Fin 64) :
    (A_main_v40 (F := Ideal) x : S16x2048x8x64.Idx → EReal) (ix4 b p h e)
      = turned (fun d => entry x (2048 * b.val + p.val) ((64 * h.val + d))) (angle p.val) e.val := by
  pointwise [A_main_v40, A_main_v39, A_main_v38, K_main_v37, K_main_v25, A_main_v29, A_main_v36, K_main_v35, K_main_v27, A_main_v28, A_main_v34, A_main_v33, K_main_v32, A_main_v31, K_main_v30]
  simp only [cosq, sinq, turned, query_raw]

  by_cases he : e.val < 32
  · rw [dif_pos he, if_pos he, Nat.add_comm 32]
  · rw [dif_neg he, if_neg he]
    have e1 : 32 + (e.val - 32) = e.val := by omega
    rw [e1]

/-- The query columns by chunk. -/
theorem query_at (n b : Fin 16) (i : Fin 128) (h : Fin 8) (e : Fin 64) :
    (A_main_v120 (F := Ideal) x : S16x16x128x8x64.Idx → EReal) (ix5 n b i h e) = (feed x b.val).q h.val n.val i e := by
  pointwise [A_main_v120, A_main_v71]
  rw [query_turned]
  have ep : n.val * 128 + i.val = 128 * n.val + i.val := by omega
  simp only [ep]
  rfl

/-- The key columns by sequence, position, head and lane. -/
theorem key_raw (b : Fin 16) (p : Fin 2048) (h : Fin 8) (e : Fin 64) :
    (A_main_v10 (F := Ideal) x : S16x2048x8x64.Idx → EReal) (ix4 b p h e) = entry x (2048 * b.val + p.val) (512 + (64 * h.val + e.val)) := by
  pointwise [A_main_v10, A_main_v5, A_main_v4, A_main_v3]
  exact entry_of x _ _ _ _ _ _ (by omega) (by omega)

/-- The key columns rotated. -/
theorem key_turned (b : Fin 16) (p : Fin 2048) (h : Fin 8) (e : Fin 64) :
    (A_main_v70 (F := Ideal) x : S16x2048x8x64.Idx → EReal) (ix4 b p h e)
      = turned (fun d => entry x (2048 * b.val + p.val) (512 + (64 * h.val + d))) (angle p.val) e.val * Ideal.ofBits FTy.f32 0x3E000000#32 := by
  pointwise [A_main_v70, K_main_v69, K_main_cst_3, A_main_v68, A_main_v67, A_main_v66, K_main_v65, K_main_v53, A_main_v57, A_main_v64, K_main_v63, K_main_v55, A_main_v56, A_main_v62, A_main_v61, K_main_v60, A_main_v59, K_main_v58]
  simp only [cosk, sink, turned, key_raw]
  refine congrArg (· * _) ?_
  by_cases he : e.val < 32
  · rw [dif_pos he, if_pos he, Nat.add_comm 32]
  · rw [dif_neg he, if_neg he]
    have e1 : 32 + (e.val - 32) = e.val := by omega
    rw [e1]

/-- The key columns by chunk. -/
theorem key_at (n b : Fin 16) (i : Fin 128) (h : Fin 8) (e : Fin 64) :
    (A_main_v121 (F := Ideal) x : S16x16x128x8x64.Idx → EReal) (ix5 n b i h e) = (feed x b.val).k h.val n.val i e := by
  pointwise [A_main_v121, A_main_v72]
  rw [key_turned]
  have ep : n.val * 128 + i.val = 128 * n.val + i.val := by omega
  simp only [ep]
  rfl

/-- Values. -/
theorem value_at (n b : Fin 16) (i : Fin 128) (h : Fin 8) (e : Fin 64) :
    (A_main_v122 (F := Ideal) x : S16x16x128x8x64.Idx → EReal) (ix5 n b i h e) = (feed x b.val).v h.val n.val i e := by
  pointwise [A_main_v122, A_main_v73, A_main_v11, A_main_v8, A_main_v7, A_main_v6]
  exact entry_of x _ _ _ _ _ _ (by omega) (by omega)

/-- The decay mask within a chunk. -/
theorem mask_at (b : ℕ) (h : Fin 8) (i j : Fin 128) : (K_main_v98 (F := Ideal) : S8x128x128.Idx → EReal) (ix3 h i j) = (feed x b).dm h.val i j := by
  pointwise [K_main_v98, K_main_call0_v2, K_main_call0_v0, K_main_cst_9, K_main_v97, K_main_v96, K_main_v95, K_main_v93, K_main_v92, K_main_v91, K_main_cst_8, K_main_v87, K_main_v86, K_main_v84, K_main_v82, K_main_v85, K_main_v83, K_main_v94, K_main_v90, K_main_v81, K_main_v80, K_main_v78, K_main_v76, K_main_v74, K_main_v75, K_main_cst_4, K_main_v77, K_main_cst_5, K_main_v79, K_main_cst_6, K_main_call0_v1, K_main_v89, K_main_v88, K_main_cst_7]
  have e : (id (constant (F := Ideal) S_ FTy.f32 0#32) ix0 : EReal) = 0 := Ideal.ofBits_zero_f32
  simp only [feed, logDecay, num, e]
  exact if_congr Iff.rfl rfl rfl

/-- The query weights. -/
theorem qweight_at (b : ℕ) (h : Fin 8) (i : Fin 128) : (K_main_v114 (F := Ideal) : S8x128.Idx → EReal) (ix2 h i) = (feed x b).qw h.val i := by
  pointwise [K_main_v114, K_main_v113, K_main_v112, K_main_v110, K_main_v109, K_main_v108, K_main_cst_11, K_main_v82, K_main_v111, K_main_v107, K_main_v81, K_main_v80, K_main_v78, K_main_v76, K_main_v74, K_main_v75, K_main_cst_4, K_main_v77, K_main_cst_5, K_main_v79, K_main_cst_6]
  rfl

/-- The key weights. -/
theorem kweight_at (b : ℕ) (h : Fin 8) (i : Fin 128) : (K_main_v106 (F := Ideal) : S8x128.Idx → EReal) (ix2 h i) = (feed x b).kw h.val i := by
  pointwise [K_main_v106, K_main_v105, K_main_v104, K_main_v102, K_main_v101, K_main_v82, K_main_v100, K_main_cst_10, K_main_v103, K_main_v99, K_main_v81, K_main_v80, K_main_v78, K_main_v76, K_main_v74, K_main_v75, K_main_cst_4, K_main_v77, K_main_cst_5, K_main_v79, K_main_cst_6]
  rfl

/-- The decay of a whole chunk. -/
theorem decay_at (b : ℕ) (h : Fin 8) : (K_main_v118 (F := Ideal) : S8x1x1.Idx → EReal) (ix3 h 0 0) = (feed x b).decay h.val := by
  pointwise [K_main_v118, K_main_v117, K_main_v116, K_main_v115, K_main_cst_12, K_main_v81, K_main_v80, K_main_v78, K_main_v76, K_main_v74, K_main_v75, K_main_cst_4, K_main_v77, K_main_cst_5, K_main_v79, K_main_cst_6]
  rfl

end Cert.Ret
end
end
-- ==== Proof.RefLoop.lean ====
module
public import proofs.«01_k».proof.Proof.Gen.ReferenceIdeal.Run
public import proofs.«01_k».proof.Proof.Gen.ReferenceIdeal.Step
public import Idealize.ShloMosaic.Lib.Pointwise
@[expose] public section

/-! The reference's scan over the sixteen chunks, as a sequence of states.

`At V s j` says that the buffers the scan works on hold the state `s` as trip `j` begins; a trip keeps it, so the
reference's result is read off the sixteenth state. -/

set_option maxRecDepth 8192
noncomputable section
namespace Cert.RefLoop
open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init K_main_v98 K_main_v106 K_main_v114 K_main_v118 R_main_v152)

/-- As trip `j` begins: running state, gathered chunks, chunked queries, keys and values, the trip's number, and the
four tables (decay mask, query weights, key weights, decay of a whole chunk). -/
structure At (V : Valuation τ sig (Elt Ideal)) (s : State Ideal) (j : ℕ) : Prop where
  running : V (Proc.devRef .tc main_v124_8) = s.main_v124_8
  gathered : V (Proc.devRef .tc main_v124_9) = s.main_v124_9
  queries : V (Proc.devRef .tc main_v124_0) = s.main_v124_0
  keys : V (Proc.devRef .tc main_v124_1) = s.main_v124_1
  values : V (Proc.devRef .tc main_v124_2) = s.main_v124_2
  number : V (Proc.devRef .tc main_v124_7) = constantI S_ 32 (BitVec.ofNat 32 j)
  mask : V (Proc.devRef .tc main_v124_3) = K_main_v98 (F := Ideal)
  queryWeights : V (Proc.devRef .tc main_v124_4) = K_main_v114 (F := Ideal)
  keyWeights : V (Proc.devRef .tc main_v124_5) = K_main_v106 (F := Ideal)
  decay : V (Proc.devRef .tc main_v124_6) = K_main_v118 (F := Ideal)

variable {V : Valuation τ sig (Elt Ideal)} {s : State Ideal} {j : ℕ}

/-- A trip's running state is `step`'s. -/
theorem running_next (h : At V s j) : step_main_v124_8 V = (step j s).main_v124_8 := by
  unfold step_main_v124_8 res_main_while0b_v154 res_main_while0b_v155
  rw [h.running, h.decay, h.keys, h.values, h.number, h.keyWeights]
  rfl

/-- A trip's gathered chunks are `step`'s. -/
theorem gathered_next (h : At V s j) : step_main_v124_9 V = (step j s).main_v124_9 := by
  unfold step_main_v124_9 res_main_while0b_v153 res_main_while0b_v154 res_main_while0b_v155
  rw [h.running, h.gathered, h.queries, h.keys, h.values, h.number, h.mask, h.queryWeights]
  rfl

/-- The trip's number goes up by one. -/
theorem number_next (h : At V s j) : step_main_v124_7 V = constantI S_ 32 (BitVec.ofNat 32 (j + 1)) := by
  unfold step_main_v124_7
  rw [h.number]
  funext i
  exact (BitVec.ofNat_add ..).symm

/-- One trip. -/
theorem At.trip (h : At V s j) : At (STEP V) (step j s) (j + 1) :=
  ⟨(STEP_main_v124_8 V).trans (running_next h), (STEP_main_v124_9 V).trans (gathered_next h), (STEP_main_v124_0 V).trans h.queries,
    (STEP_main_v124_1 V).trans h.keys, (STEP_main_v124_2 V).trans h.values, (STEP_main_v124_7 V).trans (number_next h),
    (STEP_main_v124_3 V).trans h.mask, (STEP_main_v124_4 V).trans h.queryWeights, (STEP_main_v124_5 V).trans h.keyWeights,
    (STEP_main_v124_6 V).trans h.decay⟩

/-- The state as trip `n` begins. -/
def states (x : (⟨S32768x2048, .bf16⟩ : BufTy).Contents (Elt Ideal)) : ℕ → State Ideal
  | 0 => init x
  | n + 1 => step n (states x n)

variable (m : (ℓ : Loc nD τ sig) → Buf (Elt Ideal) ℓ) (c : Dev nD)

set_option maxRecDepth 65536 in
set_option maxHeartbeats 1000000 in
/-- The host's operations before the scan set up the first state. -/
theorem at_entry : At (entryContents preI m c) (init (m ((c.tc : Thread nD τ).loc main_arg0))) 0 := by
  refine ⟨?_, ?_, ?_, ?_, ?_, ?_, ?_, ?_, ?_, ?_⟩ <;> simp only [entryContents, afterL_cons, afterL_nil] <;> after_reads_simp <;> rfl

/-- The states, trip after trip. -/
theorem at_trips : ∀ n, At (STEP^[n] (entryContents preI m c)) (states (m ((c.tc : Thread nD τ).loc main_arg0)) n) n
  | 0 => at_entry m c
  | n + 1 => by rw [Function.iterate_succ_apply']; exact (at_trips n).trip

/-- The result, read off the state after the last trip. -/
theorem out_of_at {x : (⟨S32768x2048, .bf16⟩ : BufTy).Contents (Elt Ideal)} (h : At V s j) (hx : V (Proc.devRef .tc main_arg0) = x) :
    out_main_v152 V = R_main_v152 s x := by
  unfold out_main_v152
  rw [h.gathered, hx]
  rfl

/-- What the reference leaves: the result read off the state after the sixteenth trip, and its argument as it was. -/
theorem run_states (ρ : Dev nD → PrngReg) :
    θ_run (defs (F := Ideal)) (onTc (τ := τ) (main (F := Ideal))) ⟨m, fun _ => 0, ρ⟩ fun r => ∀ c : Dev nD,
      r.2.mem ((c.tc : Thread nD τ).loc main_v152) = R_main_v152 (states (m ((c.tc : Thread nD τ).loc main_arg0)) 16) (m ((c.tc : Thread nD τ).loc main_arg0))
      ∧ r.2.mem ((c.tc : Thread nD τ).loc main_arg0) = m ((c.tc : Thread nD τ).loc main_arg0) :=
  (θ_run defs _ _).mono (fun _ h c => ⟨(h c).1.trans (out_of_at (at_trips m c 16) (iter_main_arg0 m c 16)), (h c).2⟩) (Value.run m ρ)

end Cert.RefLoop
end
end
-- ==== Proof.RefTrip.lean ====
module
public import proofs.«01_k».proof.Proof.Gen.ReferenceIdeal.Step
public import Idealize.ShloMosaic.Lib.Pointwise
@[expose] public section

/-! One trip of the reference's scan, entry by entry. -/

set_option maxRecDepth 16384
noncomputable section
namespace Cert.Ret
open Idealize.ShloMosaic Idealize.ShloMosaic.TcCoe Idealize.SL.Sem Cert.ReferenceIdeal Cert.ReferenceIdeal.Gen Cert.ReferenceIdeal.Step

/-- The printed start of chunk `j`'s slice. -/
def chunkStart (j : ℕ) : Fin 5 → Int :=
  fun k => (((![(constantI S_ 32 (BitVec.ofNat 32 j) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal))) k (Shape.Idx.first h_S_)).toInt

/-- Where a slice of one chunk starts. -/
theorem starts (j : ℕ) (hj : j < 16) (ht : S1x16x128x8x64.rank = S16x16x128x8x64.rank) (start : Fin 5 → Int) (hs : start = chunkStart j) (a : Fin 5) :
    Host.clampedStart S16x16x128x8x64 S1x16x128x8x64 ht start a = if a = 0 then j else 0 := by
  have hw : (BitVec.ofNat 32 j).toInt = (j : Int) := by
    rw [BitVec.toInt_eq_toNat_of_lt (by rw [BitVec.toNat_ofNat]; omega), BitVec.toNat_ofNat, Nat.mod_eq_of_lt (by omega)]
  subst hs
  match a with
  | 0 => exact Host.clampedStart_of_le ht _ 0 j hw (by show j + 1 ≤ 16; omega)
  | 1 => exact Host.clampedStart_of_le ht _ 1 0 rfl (Nat.le_of_ble_eq_true rfl)
  | 2 => exact Host.clampedStart_of_le ht _ 2 0 rfl (Nat.le_of_ble_eq_true rfl)
  | 3 => exact Host.clampedStart_of_le ht _ 3 0 rfl (Nat.le_of_ble_eq_true rfl)
  | 4 => exact Host.clampedStart_of_le ht _ 4 0 rfl (Nat.le_of_ble_eq_true rfl)

/-- The place a slice of one chunk reads. -/
theorem place (j : ℕ) (hj : j < 16) (ht : S1x16x128x8x64.rank = S16x16x128x8x64.rank) (start : Fin 5 → Int) (hs : start = chunkStart j) (b : Fin 16) (i : Fin 128) (h : Fin 8) (d : Fin 64)
    (k : S16x16x128x8x64.Idx) (h0 : (k 0).val = Host.clampedStart S16x16x128x8x64 S1x16x128x8x64 ht start 0)
    (h1 : (k 1).val = Host.clampedStart S16x16x128x8x64 S1x16x128x8x64 ht start 1 + b.val)
    (h2 : (k 2).val = Host.clampedStart S16x16x128x8x64 S1x16x128x8x64 ht start 2 + i.val)
    (h3 : (k 3).val = Host.clampedStart S16x16x128x8x64 S1x16x128x8x64 ht start 3 + h.val)
    (h4 : (k 4).val = Host.clampedStart S16x16x128x8x64 S1x16x128x8x64 ht start 4 + d.val) :
    k = ix5 (⟨j, hj⟩ : Fin 16) b i h d := by
  have e := starts j hj ht start hs
  funext a
  apply Fin.ext
  match a with
  | 0 => exact h0.trans (e 0)
  | 1 => exact h1.trans ((congrArg (· + b.val) (e 1)).trans (Nat.zero_add _))
  | 2 => exact h2.trans ((congrArg (· + i.val) (e 2)).trans (Nat.zero_add _))
  | 3 => exact h3.trans ((congrArg (· + h.val) (e 3)).trans (Nat.zero_add _))
  | 4 => exact h4.trans ((congrArg (· + d.val) (e 4)).trans (Nat.zero_add _))

/-- Writing one chunk's slab over a stack, read back at an entry. -/
theorem over_stack (j : ℕ) (hj : j < 16) (y : S16x16x128x8x64.Idx → EReal) (u : S1x16x128x8x64.Idx → EReal) (start : Fin 5 → Int) (fit : S16x16x128x8x64.Slices (fun _ => 0) S1x16x128x8x64) (hs : start = chunkStart j)
    (n b : Fin 16) (i : Fin 128) (h : Fin 8) (e : Fin 64) :
    Host.dynamicUpdateSlice (s := S16x16x128x8x64) (u := S1x16x128x8x64) y u start fit (ix5 n b i h e) = if n.val = j then u (ix5 0 b i h e) else y (ix5 n b i h e) := by
  have c0 := starts j hj fit.1 start hs 0
  have c1 := starts j hj fit.1 start hs 1
  have c2 := starts j hj fit.1 start hs 2
  have c3 := starts j hj fit.1 start hs 3
  have c4 := starts j hj fit.1 start hs 4
  simp only [Fin.isValue, one_ne_zero, reduceIte, Fin.reduceEq] at c0 c1 c2 c3 c4
  pointwise []
  by_cases hn : n.val = j
  · rw [if_pos hn, dif_pos]
    · congr 1
      funext a
      apply Fin.ext
      match a with
      | 0 => (show n.val - _ = 0); rw [c0, hn]; exact Nat.sub_self j
      | 1 => exact congrArg (b.val - ·) c1
      | 2 => exact congrArg (i.val - ·) c2
      | 3 => exact congrArg (h.val - ·) c3
      | 4 => exact congrArg (e.val - ·) c4
    · rw [c0, c1, c2, c3, c4]
      omega
  · rw [if_neg hn, dif_neg]
    rw [c0]
    omega

section Trip
variable (j : ℕ) (s : State Ideal) (hj : j < 16) (b : Fin 16) (i : Fin 128) (h : Fin 8) (d e : Fin 64)

/-- A trip's queries. -/
theorem trip_q : (b5 j s : S16x128x8x64.Idx → EReal) (ix4 b i h d) = (s.main_v124_0 : S16x16x128x8x64.Idx → EReal) (ix5 ⟨j, hj⟩ b i h d) := by
  unfold b5 b4
  pointwise []
  exact congrArg _ (place j hj _ _ rfl b i h d _ rfl rfl rfl rfl rfl)

/-- A trip's keys. -/
theorem trip_k : (b11 j s : S16x128x8x64.Idx → EReal) (ix4 b i h d) = (s.main_v124_1 : S16x16x128x8x64.Idx → EReal) (ix5 ⟨j, hj⟩ b i h d) := by
  unfold b11 b10
  pointwise []
  exact congrArg _ (place j hj _ _ rfl b i h d _ rfl rfl rfl rfl rfl)

/-- A trip's values. -/
theorem trip_v : (b17 j s : S16x128x8x64.Idx → EReal) (ix4 b i h d) = (s.main_v124_2 : S16x16x128x8x64.Idx → EReal) (ix5 ⟨j, hj⟩ b i h d) := by
  unfold b17 b16
  pointwise []
  exact congrArg _ (place j hj _ _ rfl b i h d _ rfl rfl rfl rfl rfl)

/-- A trip's running state. -/
theorem trip_run : (b38 j s : S16x8x64x64.Idx → EReal) (ix4 b h d e)
    = (s.main_v124_8 : S16x8x64x64.Idx → EReal) (ix4 b h d e) * (K_main_v118 (F := Ideal) : S8x1x1.Idx → EReal) (ix3 h 0 0)
      + ∑ y : Fin 128, (b11 j s : S16x128x8x64.Idx → EReal) (ix4 b y h d) * (K_main_v106 (F := Ideal) : S8x128.Idx → EReal) (ix2 h y) * (b17 j s : S16x128x8x64.Idx → EReal) (ix4 b y h e) := by
  unfold b38 b37 b36 b35 b34 b33 b32 b31 b30
  pointwise []

/-- What a trip's rows gather. -/
theorem trip_got : (b39 j s : S16x128x8x64.Idx → EReal) (ix4 b i h e)
    = ∑ y : Fin 128, (b17 j s : S16x128x8x64.Idx → EReal) (ix4 b y h e)
        * ((∑ z : Fin 64, (b5 j s : S16x128x8x64.Idx → EReal) (ix4 b i h z) * (b11 j s : S16x128x8x64.Idx → EReal) (ix4 b y h z)) * (K_main_v98 (F := Ideal) : S8x128x128.Idx → EReal) (ix3 h i y))
      + ∑ z : Fin 64, (s.main_v124_8 : S16x8x64x64.Idx → EReal) (ix4 b h z e) * ((b5 j s : S16x128x8x64.Idx → EReal) (ix4 b i h z) * (K_main_v114 (F := Ideal) : S8x128.Idx → EReal) (ix2 h i)) := by
  unfold b39 b23 b29 b22 b28 b21 b20 b19 b18 b27 b26 b25 b24
  pointwise []

include hj in
/-- A trip stacks what its rows gather, and leaves the other chunks. -/
theorem trip_stack (n : Fin 16) : (b45 j s : S16x16x128x8x64.Idx → EReal) (ix5 n b i h e)
    = if n.val = j then (b39 j s : S16x128x8x64.Idx → EReal) (ix4 b i h e) else (s.main_v124_9 : S16x16x128x8x64.Idx → EReal) (ix5 n b i h e) := by
  unfold b45
  refine (over_stack j hj _ _ _ _ rfl n b i h e).trans ?_
  have e1 : (b40 j s : S1x16x128x8x64.Idx → EReal) (ix5 0 b i h e) = (b39 j s : S16x128x8x64.Idx → EReal) (ix4 b i h e) := by
    unfold b40
    pointwise []
  rw [e1]

end Trip

end Cert.Ret
end
end
-- ==== Proof.RefTail.lean ====
module
public import proofs.«01_k».proof.Proof.Gen.ReferenceIdeal.Step
public import proofs.«01_k».proof.Proof.RetSpec
@[expose] public section

/-! What the reference does after its scan, entry by entry: each head is normalised and gated. -/

set_option maxRecDepth 16384
noncomputable section
namespace Cert.Ret
open Idealize.ShloMosaic Idealize.ShloMosaic.TcCoe Idealize.SL.Sem Cert.ReferenceIdeal Cert.ReferenceIdeal.Gen Cert.ReferenceIdeal.Step

/-- A mean over sixty-four entries. -/
theorem mean64 (y : EReal) : Ideal.div y (Ideal.ofBits FTy.f32 0x42800000#32) = y * w64 := by
  have e1 : Ideal.ofBits FTy.f32 0x42800000#32 = ((64 : ℝ) : EReal) := by
    simp [Ideal.ofBits, Ideal.ieee, -EReal.coe_mul]; norm_num
  have e2 : w64 = ((1 / 64 : ℝ) : EReal) := by
    unfold w64
    simp [Ideal.ofBits, Ideal.ieee, -EReal.coe_mul]; norm_num
  rw [e1, e2, Ideal.div_coe (by norm_num)]

/-- The reference's result from what its scan stacked. -/
theorem tail_at (s : State Ideal) (x : S32768x2048.Idx → EReal) (r : Fin 32768) (l : Fin 512) :
    (R_main_v152 s x : S32768x512.Idx → EReal) (ix2 r l)
      = normed (fun e => (s.main_v124_9 : S16x16x128x8x64.Idx → EReal)
          (ix5 ⟨r.val % 2048 / 128, by omega⟩ ⟨r.val / 2048, by omega⟩ ⟨r.val % 2048 % 128, by omega⟩ ⟨l.val / 64, by omega⟩ e)) ⟨l.val % 64, by omega⟩
        * swish (x (ix2 r ⟨1536 + l.val, by omega⟩)) := by
  unfold R_main_v152
  pointwise []
  simp only [mean64, normed, off, swish, Ideal.logistic]

end Cert.Ret
end
end
-- ==== Proof.RefValue.lean ====
module
public import proofs.«01_k».proof.Proof.RefRead
public import proofs.«01_k».proof.Proof.RefLoop
public import proofs.«01_k».proof.Proof.RefTrip
public import proofs.«01_k».proof.Proof.RefTail
@[expose] public section

/-! The reference's result: its scan's states are the running states of retention, and what it stacks is what the rows
gather. -/

set_option maxRecDepth 16384
noncomputable section
namespace Cert.Ret
open Idealize.ShloMosaic Idealize.ShloMosaic.TcCoe Idealize.SL.Sem Cert.ReferenceIdeal Cert.ReferenceIdeal.Gen Cert.ReferenceIdeal.Step

open Cert.RefLoop (states)

variable (x : S32768x2048.Idx → EReal)

/-- The chunked queries, keys and values stay as they began. -/
theorem kept : ∀ n : ℕ, (states x n).main_v124_0 = A_main_v120 (F := Ideal) x ∧ (states x n).main_v124_1 = A_main_v121 (F := Ideal) x ∧ (states x n).main_v124_2 = A_main_v122 (F := Ideal) x
  | 0 => ⟨rfl, rfl, rfl⟩
  | n + 1 => kept n

/-- The scan's state as chunk `n` begins is the running state. -/
theorem scan_run : ∀ n ≤ 16, ∀ (b : Fin 16) (h : Fin 8) (d e : Fin 64),
    ((states x n).main_v124_8 : S16x8x64x64.Idx → EReal) (ix4 b h d e) = (feed x b.val).run h.val n d e
  | 0, _, b, h, d, e => by
    show (K_main_v119 (F := Ideal) : S16x8x64x64.Idx → EReal) (ix4 b h d e) = 0
    pointwise [K_main_v119, K_main_cst_13]
  | n + 1, hn, b, h, d, e => by
    have hk := kept x n
    show (b38 n (states x n) : S16x8x64x64.Idx → EReal) (ix4 b h d e) = _
    rw [trip_run, scan_run n (by omega), decay_at x b.val]
    refine congrArg₂ (· + ·) rfl (Finset.sum_congr rfl fun y _ => ?_)
    rw [trip_k n _ (by omega), trip_v n _ (by omega), hk.2.1, hk.2.2, key_at, value_at, kweight_at x b.val]

/-- What trip `n` gathers. -/
theorem scan_got (n : ℕ) (hn : n < 16) (b : Fin 16) (i : Fin 128) (h : Fin 8) (e : Fin 64) :
    (b39 n (states x n) : S16x128x8x64.Idx → EReal) (ix4 b i h e) = (feed x b.val).got h.val n i e := by
  have hk := kept x n
  rw [trip_got]
  refine congrArg₂ (· + ·) (Finset.sum_congr rfl fun y _ => ?_) (Finset.sum_congr rfl fun z _ => ?_)
  · rw [trip_v n _ hn, hk.2.2, value_at, mask_at x b.val, mul_comm]
    refine congrArg (· * _) (congrArg (· * _) (Finset.sum_congr rfl fun z _ => ?_))
    rw [trip_q n _ hn, trip_k n _ hn, hk.1, hk.2.1, query_at, key_at]
  · rw [trip_q n _ hn, hk.1, query_at, qweight_at x b.val, scan_run x n (by omega), mul_comm]

/-- After `m` trips the first `m` chunks are stacked. -/
theorem scan_stack : ∀ m ≤ 16, ∀ (n b : Fin 16) (i : Fin 128) (h : Fin 8) (e : Fin 64), n.val < m →
    ((states x m).main_v124_9 : S16x16x128x8x64.Idx → EReal) (ix5 n b i h e) = (feed x b.val).got h.val n.val i e
  | 0, _, _, _, _, _, _, hn => absurd hn (Nat.not_lt_zero _)
  | m + 1, hm, n, b, i, h, e, hn => by
    show (b45 m (states x m) : S16x16x128x8x64.Idx → EReal) (ix5 n b i h e) = _
    rw [trip_stack m _ (by omega)]
    by_cases hnm : n.val = m
    · rw [if_pos hnm, hnm, scan_got x m (by omega)]
    · rw [if_neg hnm]
      exact scan_stack m (by omega) n b i h e (by omega)

/-- The reference's result, entry by entry. -/
theorem reference_at (r : Fin 32768) (l : Fin 512) :
    (R_main_v152 (states x 16) x : S32768x512.Idx → EReal) (ix2 r l)
      = (feed x (r.val / 2048)).out (l.val / 64) (r.val % 2048 / 128) (inChunk r) (lane l) := by
  rw [tail_at]
  have ei : (⟨r.val % 2048 % 128, by omega⟩ : Fin 128) = inChunk r := Fin.ext (by show r.val % 2048 % 128 = r.val % 128; omega)
  unfold Feed.out
  refine congrArg₂ (· * ·) (congrArg (fun y => normed y (lane l)) (funext fun e => ?_)) (congrArg swish ?_)
  · rw [scan_stack x 16 (le_refl _) _ _ _ _ _ (by show r.val % 2048 / 128 < 16; omega), ei]
  · refine (entry_eq x r ⟨1536 + l.val, by omega⟩).symm.trans ?_
    show entry x r.val (1536 + l.val) = entry x (2048 * (r.val / 2048) + (128 * (r.val % 2048 / 128) + r.val % 128)) (1536 + (64 * (l.val / 64) + l.val % 64))
    congr 1 <;> omega

end Cert.Ret
end
end
-- ==== Proof.ProjBody.lean ====
module
public import proofs.«01_k».proof.Proof.Gen.Kernel2Ideal.Value
public import Idealize.ShloMosaic.Lib.Pipeline.ValueKit
public import Idealize.ShloMosaic.Lib.Pointwise
public import Idealize.ShloMosaic.Lib.Pipeline.ReadBack
@[expose] public section

/-! The input projection's body: what one grid point stores in each of its four output blocks. -/

set_option maxRecDepth 16384
noncomputable section
namespace Cert.Proj
open Idealize.ShloMosaic Idealize.ShloMosaic.TcCoe Idealize.SL.Sem Cert.Kernel2Ideal Cert.Kernel2Ideal.Gen

/-- Entry `k` of a row divided by its root mean square and weighted. -/
def unitRow (f g : Fin 1024 → EReal) (k : Fin 1024) : EReal :=
  f k * Ideal.rsqrt (Ideal.div (∑ j : Fin 1024, f j * f j) (Ideal.ofBits FTy.f32 0x44800000#32) + Ideal.ofBits FTy.f32 0x358637BD#32) * g k

/-- An entry of the normalised block. -/
theorem normed_at (x : Vec Ideal S512x1024 .f32) (g : Vec Ideal S1x1024 .f32) (r : Fin 512) (k : Fin 1024) :
    k0_pay5 x g (ix2 r k) = unitRow (fun j => x (ix2 r j)) (fun j => g (ix2 0 j)) k := by
  pointwise [k0_pay5, unitRow]

/-- An entry of a product with 512 of the weight's columns. -/
theorem product_at (h : FVec Ideal S512x1024 .bf16) (w : Vec Ideal S1x1024x512 .bf16) (r l : Fin 512) :
    k0_pay1 h w (ix2 r l) = ∑ k : Fin 1024, h (ix2 r k) * w (ix3 0 k l) := by
  pointwise [k0_pay1]

/-- An entry of a product with 128 of the weight's columns. -/
theorem product128_at (h : FVec Ideal S512x1024 .bf16) (w : Vec Ideal S1x1024x128 .bf16) (r : Fin 512) (l : Fin 128) :
    k0_pay10 h w (ix2 r l) = ∑ k : Fin 1024, h (ix2 r k) * w (ix3 0 k l) := by
  pointwise [k0_pay10]

/-- What a block of 512 tokens projects to in column `c` of the weight. -/
def column (x : Vec Ideal S512x1024 .f32) (g : Vec Ideal S1x1024 .f32) (w : Vec Ideal S1x1024x8320 .bf16) (r : Fin 512) (c : Fin 8320) : EReal :=
  ∑ k : Fin 1024, unitRow (fun j => x (ix2 r j)) (fun j => g (ix2 0 j)) k * w (ix3 0 k c)

/-- The `N` columns of the projection that begin at column `o`. -/
def columns (x : Vec Ideal S512x1024 .f32) (g : Vec Ideal S1x1024 .f32) (w : Vec Ideal S1x1024x8320 .bf16) (o N : ℕ) (h : o + N ≤ 8320)
    (y : (⟨2, ![512, N]⟩ : Shape).Idx) : EReal :=
  column x g w (y 0) ⟨o + (y 1).val, by have hy : (y 1).val < N := (y 1).isLt; omega⟩

/-- An index of a piece, by its two coordinates. -/
theorem two_coords {M N : ℕ} (x : (⟨2, ![M, N]⟩ : Shape).Idx) : x = ix2 (x 0) (x 1) := by
  funext a
  match a with
  | 0 => rfl
  | 1 => rfl

section
variable (x : Vec Ideal S512x1024 .f32) (g : Vec Ideal S1x1024 .f32) (w : Vec Ideal S1x1024x8320 .bf16) {o N p : ℕ} (h : o + N ≤ 8320)

/-- A stored piece of 512 columns is that part of `columns`. -/
theorem piece512 (hp : ∀ a, (![0, p] : Fin 2 → ℕ) a + (![512, 512] : Fin 2 → ℕ) a ≤ (⟨2, ![512, N]⟩ : Shape).size a)
    (hw : ∀ a, (![0, 0, o + p] : Fin 3 → ℕ) a + (![1, 1024, 512] : Fin 3 → ℕ) a ≤ S1x1024x8320.size a)
    (i : (⟨2, ![512, 512]⟩ : Shape).Idx) :
    k0_pay1 (k0_pay5 x g) (View.ld w (Rect.unit (s := S1x1024x8320) ![0, 0, o + p] ![1, 1024, 512] hw)) i
      = columns x g w o N h ((Rect.unit (s := ⟨2, ![512, N]⟩) ![0, p] ![512, 512] hp).emb i) := by
  obtain ⟨r, l, rfl⟩ : ∃ (r : Fin 512) (l : Fin 512), i = ix2 r l := ⟨i 0, i 1, two_coords i⟩
  rw [product_at]
  unfold columns column
  refine Finset.sum_congr rfl fun k _ => congrArg₂ (· * ·) ?_ ?_
  · rw [normed_at]
    congr 1
    funext j
    congr 2
    exact Fin.ext (by show r.val = 0 + 1 * r.val; omega)
  · refine congrArg w (funext fun a => Fin.ext ?_)
    match a with
    | 0 => rfl
    | 1 => show 0 + 1 * k.val = k.val; omega
    | 2 => show o + p + 1 * l.val = o + (p + 1 * l.val); omega

/-- A stored piece of 128 columns is that part of `columns`. -/
theorem piece128 (hp : ∀ a, (![0, p] : Fin 2 → ℕ) a + (![512, 128] : Fin 2 → ℕ) a ≤ (⟨2, ![512, N]⟩ : Shape).size a)
    (hw : ∀ a, (![0, 0, o + p] : Fin 3 → ℕ) a + (![1, 1024, 128] : Fin 3 → ℕ) a ≤ S1x1024x8320.size a)
    (i : (⟨2, ![512, 128]⟩ : Shape).Idx) :
    k0_pay10 (k0_pay5 x g) (View.ld w (Rect.unit (s := S1x1024x8320) ![0, 0, o + p] ![1, 1024, 128] hw)) i
      = columns x g w o N h ((Rect.unit (s := ⟨2, ![512, N]⟩) ![0, p] ![512, 128] hp).emb i) := by
  obtain ⟨r, l, rfl⟩ : ∃ (r : Fin 512) (l : Fin 128), i = ix2 r l := ⟨i 0, i 1, two_coords i⟩
  rw [product128_at]
  unfold columns column
  refine Finset.sum_congr rfl fun k _ => congrArg₂ (· * ·) ?_ ?_
  · rw [normed_at]
    congr 1
    funext j
    congr 2
    exact Fin.ext (by show r.val = 0 + 1 * r.val; omega)
  · refine congrArg w (funext fun a => Fin.ext ?_)
    match a with
    | 0 => rfl
    | 1 => show 0 + 1 * k.val = k.val; omega
    | 2 => show o + p + 1 * l.val = o + (p + 1 * l.val); omega

end

variable (m : (ℓ : Loc nD τ sig) → Buf (Elt Ideal) ℓ) (c : Dev nD) (t : Fin cfg0.N)

/-- What a point stores for the first branch. -/
theorem stored_a (y : S512x2176.Idx) : (outsAt0 m c t).1 y = columns (iblk m c 0 t) (iblk m c 1 t) (iblk m c 2 t) 0 2176 (by decide) y := by
  unfold outsAt0
  frame_out
  refine View.canon_apply_of_pieces (Val := Elt Ideal) (e := .bf16) (columns (iblk m c 0 t) (iblk m c 1 t) (iblk m c 2 t) 0 2176 (by decide)) _ ?_ y
    (View.cover_of_tiledBy _ ![512, 128] (by sl_kernel_rfl) y)
  intro pc hpc
  simp only [List.mem_cons, List.not_mem_nil, or_false] at hpc
  rcases hpc with rfl | rfl | rfl | rfl | rfl
  · exact piece128 (o := 0) (p := 2048) _ _ _ (by decide) (by decide) (by decide)
  · exact piece512 (o := 0) (p := 1536) _ _ _ (by decide) (by decide) (by decide)
  · exact piece512 (o := 0) (p := 1024) _ _ _ (by decide) (by decide) (by decide)
  · exact piece512 (o := 0) (p := 512) _ _ _ (by decide) (by decide) (by decide)
  · exact piece512 (o := 0) (p := 0) _ _ _ (by decide) (by decide) (by decide)

/-- What a point stores for the second branch. -/
theorem stored_b (y : S512x2048.Idx) : (outsAt0 m c t).2.1 y = columns (iblk m c 0 t) (iblk m c 1 t) (iblk m c 2 t) 2176 2048 (by decide) y := by
  unfold outsAt0
  frame_out
  refine View.canon_apply_of_pieces (Val := Elt Ideal) (e := .bf16) (columns (iblk m c 0 t) (iblk m c 1 t) (iblk m c 2 t) 2176 2048 (by decide)) _ ?_ y
    (View.cover_of_tiledBy _ ![512, 512] (by sl_kernel_rfl) y)
  intro pc hpc
  simp only [List.mem_cons, List.not_mem_nil, or_false] at hpc
  rcases hpc with rfl | rfl | rfl | rfl
  · exact piece512 (o := 2176) (p := 1536) _ _ _ (by decide) (by decide) (by decide)
  · exact piece512 (o := 2176) (p := 1024) _ _ _ (by decide) (by decide) (by decide)
  · exact piece512 (o := 2176) (p := 512) _ _ _ (by decide) (by decide) (by decide)
  · exact piece512 (o := 2176) (p := 0) _ _ _ (by decide) (by decide) (by decide)

/-- What a point stores for the third branch. -/
theorem stored_c (y : S512x1024.Idx) : (outsAt0 m c t).2.2.1 y = columns (iblk m c 0 t) (iblk m c 1 t) (iblk m c 2 t) 4224 1024 (by decide) y := by
  unfold outsAt0
  frame_out
  refine View.canon_apply_of_pieces (Val := Elt Ideal) (e := .bf16) (columns (iblk m c 0 t) (iblk m c 1 t) (iblk m c 2 t) 4224 1024 (by decide)) _ ?_ y
    (View.cover_of_tiledBy _ ![512, 512] (by sl_kernel_rfl) y)
  intro pc hpc
  simp only [List.mem_cons, List.not_mem_nil, or_false] at hpc
  rcases hpc with rfl | rfl
  · exact piece512 (o := 4224) (p := 512) _ _ _ (by decide) (by decide) (by decide)
  · exact piece512 (o := 4224) (p := 0) _ _ _ (by decide) (by decide) (by decide)

/-- What a point stores for the merge's gates. -/
theorem stored_g (y : S512x3072.Idx) : (outsAt0 m c t).2.2.2 y = columns (iblk m c 0 t) (iblk m c 1 t) (iblk m c 2 t) 5248 3072 (by decide) y := by
  unfold outsAt0
  frame_out
  refine View.canon_apply_of_pieces (Val := Elt Ideal) (e := .bf16) (columns (iblk m c 0 t) (iblk m c 1 t) (iblk m c 2 t) 5248 3072 (by decide)) _ ?_ y
    (View.cover_of_tiledBy _ ![512, 512] (by sl_kernel_rfl) y)
  intro pc hpc
  simp only [List.mem_cons, List.not_mem_nil, or_false] at hpc
  rcases hpc with rfl | rfl | rfl | rfl | rfl | rfl
  · exact piece512 (o := 5248) (p := 2560) _ _ _ (by decide) (by decide) (by decide)
  · exact piece512 (o := 5248) (p := 2048) _ _ _ (by decide) (by decide) (by decide)
  · exact piece512 (o := 5248) (p := 1536) _ _ _ (by decide) (by decide) (by decide)
  · exact piece512 (o := 5248) (p := 1024) _ _ _ (by decide) (by decide) (by decide)
  · exact piece512 (o := 5248) (p := 512) _ _ _ (by decide) (by decide) (by decide)
  · exact piece512 (o := 5248) (p := 0) _ _ _ (by decide) (by decide) (by decide)

end Cert.Proj
end
end
-- ==== Proof.ProjValue.lean ====
module
public import proofs.«01_k».proof.Proof.ProjBody
public import Idealize.ShloMosaic.Lib.StableHlo.ReadAt
public import proofs.«01_k».proof.Proof.Gen.Reference2Ideal.Run
@[expose] public section

/-! The input projection's result arrays, entry by entry, beside the reference's. -/

set_option maxRecDepth 16384
noncomputable section
namespace Cert.Proj
open Idealize.ShloMosaic Idealize.ShloMosaic.TcCoe Idealize.SL.Sem Cert.Kernel2Ideal Cert.Kernel2Ideal.Gen

variable (m : (ℓ : Loc nD τ sig) → Buf (Elt Ideal) ℓ) (c : Dev nD) (t : Fin cfg0.N)

/-- The stream, the first layer's norm weights and the first layer's projection, of the arguments. -/
def stream : S32768x1024.Idx → EReal := m ((c.tc : Thread nD τ).loc main_arg0)
def weights : S2x1024.Idx → EReal := m ((c.tc : Thread nD τ).loc main_arg1)
def proj : S2x1024x8320.Idx → EReal := m ((c.tc : Thread nD τ).loc main_arg2)

theorem rows0 : ∀ t : Fin cfg0.N, win0_0.index t 0 = t.val ∧ win0_0.index t 1 = 0 :=
  (by decide +kernel : ∀ t : Fin grid0.N, win0_0.index t 0 = t.val ∧ win0_0.index t 1 = 0)
theorem whole1 : ∀ t : Fin cfg0.N, win0_1.index t 0 = 0 ∧ win0_1.index t 1 = 0 :=
  (by decide +kernel : ∀ t : Fin grid0.N, win0_1.index t 0 = 0 ∧ win0_1.index t 1 = 0)
theorem first2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem rows3 : ∀ t : Fin cfg0.N, win0_3.index t 0 = t.val ∧ win0_3.index t 1 = 0 :=
  (by decide +kernel : ∀ t : Fin grid0.N, win0_3.index t 0 = t.val ∧ win0_3.index t 1 = 0)
theorem flush3 : ∀ t : Fin cfg0.N, (cfg0.win 3).flush t = true :=
  (by decide +kernel : ∀ t : Fin grid0.N, win0_3.flush t = true)
theorem rows4 : ∀ t : Fin cfg0.N, win0_4.index t 0 = t.val ∧ win0_4.index t 1 = 0 :=
  (by decide +kernel : ∀ t : Fin grid0.N, win0_4.index t 0 = t.val ∧ win0_4.index t 1 = 0)
theorem flush4 : ∀ t : Fin cfg0.N, (cfg0.win 4).flush t = true :=
  (by decide +kernel : ∀ t : Fin grid0.N, win0_4.flush t = true)
theorem rows5 : ∀ t : Fin cfg0.N, win0_5.index t 0 = t.val ∧ win0_5.index t 1 = 0 :=
  (by decide +kernel : ∀ t : Fin grid0.N, win0_5.index t 0 = t.val ∧ win0_5.index t 1 = 0)
theorem flush5 : ∀ t : Fin cfg0.N, (cfg0.win 5).flush t = true :=
  (by decide +kernel : ∀ t : Fin grid0.N, win0_5.flush t = true)
theorem rows6 : ∀ t : Fin cfg0.N, win0_6.index t 0 = t.val ∧ win0_6.index t 1 = 0 :=
  (by decide +kernel : ∀ t : Fin grid0.N, win0_6.index t 0 = t.val ∧ win0_6.index t 1 = 0)
theorem flush6 : ∀ t : Fin cfg0.N, (cfg0.win 6).flush t = true :=
  (by decide +kernel : ∀ t : Fin grid0.N, win0_6.flush t = true)

theorem x_at (r : Fin 512) (j : Fin 1024) (h : 512 * t.val + r.val < 32768) :
    (iblk m c 0 t : S512x1024.Idx → EReal) (ix2 r j) = stream m c (ix2 ⟨512 * t.val + r.val, h⟩ j) := by
  unfold stream
  blk_ext [iblk, V, rows0 t]

theorem g_at (j : Fin 1024) : (iblk m c 1 t : S1x1024.Idx → EReal) (ix2 0 j) = weights m c (ix2 0 j) := by
  refine Eq.trans (b := (V m c main_v2 : S1x1024.Idx → EReal) (ix2 0 j)) (by blk_ext [iblk, whole1 t]) ?_
  unfold V weights
  after_reads_at

theorem w_at (k : Fin 1024) (l : Fin 8320) : (iblk m c 2 t : S1x1024x8320.Idx → EReal) (ix3 0 k l) = proj m c (ix3 0 k l) := by
  refine Eq.trans (b := (V m c main_v3 : S2x1024x8320.Idx → EReal) (ix3 0 k l)) (by blk_ext [iblk, first2 t]) ?_
  unfold V proj
  after_reads_at

/-- What token `r` projects to in column `l`. -/
def entry (x : S32768x1024.Idx → EReal) (g : S2x1024.Idx → EReal) (w : S2x1024x8320.Idx → EReal) (r : Fin 32768) (l : Fin 8320) : EReal :=
  ∑ k : Fin 1024, unitRow (fun j => x (ix2 r j)) (fun j => g (ix2 0 j)) k * w (ix3 0 k l)

theorem column_at (r : Fin 512) (l : Fin 8320) (h : 512 * t.val + r.val < 32768) :
    column (iblk m c 0 t) (iblk m c 1 t) (iblk m c 2 t) r l = entry (stream m c) (weights m c) (proj m c) ⟨512 * t.val + r.val, h⟩ l := by
  unfold column entry
  simp only [x_at m c t r _ h, g_at, w_at]

/-- The grid point of a token, and the token's place in its block. -/
def point (r : Fin 32768) : Fin cfg0.N := ⟨r.val / 512, (show r.val / 512 < 64 by omega).trans_eq (by decide)⟩
def spot (r : Fin 32768) : Fin 512 := ⟨r.val % 512, by omega⟩

theorem back (r : Fin 32768) : (point r).val * 512 + (spot r).val = r.val := by
  show r.val / 512 * 512 + r.val % 512 = r.val
  omega

theorem column_back (r : Fin 32768) (l : Fin 8320) :
    column (iblk m c 0 (point r)) (iblk m c 1 (point r)) (iblk m c 2 (point r)) (spot r) l = entry (stream m c) (weights m c) (proj m c) r l := by
  have hb := back r
  rw [column_at m c (point r) (spot r) l (by omega)]
  congr 1
  exact Fin.ext (by show 512 * (point r).val + (spot r).val = r.val; omega)

/-- The result for the first branch, entry by entry. -/
theorem final_a (r : Fin 32768) (l : Fin 2176) :
    ((dats m 0 c).arrAt 3 cfg0.N : S32768x2176.Idx → EReal) (ix2 r l) = entry (stream m c) (weights m c) (proj m c) r ⟨0 + l.val, by omega⟩ := by
  have h := congrFun (Value.blocks3 m c (point r) (flush3 _)) (ix2 (spot r) l)
  rw [Value.flushed3] at h
  refine Eq.trans ?_ (h.trans ?_)
  · symm
    blk_ext [rows3 (point r)]
    all_goals exact back r
  · exact (stored_a m c _ _).trans (column_back m c r _)

/-- The result for the second branch, entry by entry. -/
theorem final_b (r : Fin 32768) (l : Fin 2048) :
    ((dats m 0 c).arrAt 4 cfg0.N : S32768x2048.Idx → EReal) (ix2 r l) = entry (stream m c) (weights m c) (proj m c) r ⟨2176 + l.val, by omega⟩ := by
  have h := congrFun (Value.blocks4 m c (point r) (flush4 _)) (ix2 (spot r) l)
  rw [Value.flushed4] at h
  refine Eq.trans ?_ (h.trans ?_)
  · symm
    blk_ext [rows4 (point r)]
    all_goals exact back r
  · exact (stored_b m c _ _).trans (column_back m c r _)

/-- The result for the third branch, entry by entry. -/
theorem final_c (r : Fin 32768) (l : Fin 1024) :
    ((dats m 0 c).arrAt 5 cfg0.N : S32768x1024.Idx → EReal) (ix2 r l) = entry (stream m c) (weights m c) (proj m c) r ⟨4224 + l.val, by omega⟩ := by
  have h := congrFun (Value.blocks5 m c (point r) (flush5 _)) (ix2 (spot r) l)
  rw [Value.flushed5] at h
  refine Eq.trans ?_ (h.trans ?_)
  · symm
    blk_ext [rows5 (point r)]
    all_goals exact back r
  · exact (stored_c m c _ _).trans (column_back m c r _)

/-- The result for the merge's gates, entry by entry. -/
theorem final_g (r : Fin 32768) (l : Fin 3072) :
    ((dats m 0 c).arrAt 6 cfg0.N : S32768x3072.Idx → EReal) (ix2 r l) = entry (stream m c) (weights m c) (proj m c) r ⟨5248 + l.val, by omega⟩ := by
  have h := congrFun (Value.blocks6 m c (point r) (flush6 _)) (ix2 (spot r) l)
  rw [Value.flushed6] at h
  refine Eq.trans ?_ (h.trans ?_)
  · symm
    blk_ext [rows6 (point r)]
    all_goals exact back r
  · exact (stored_g m c _ _).trans (column_back m c r _)

end Cert.Proj
end
end
-- ==== Proof.ProjRef.lean ====
module
public import proofs.«01_k».proof.Defs
public import Idealize.ShloMosaic.Lib.Quiescent
public import proofs.«01_k».proof.Proof.ProjValue
@[expose] public section

/-! The input projection: the reference's four results are the kernel's. -/

set_option maxRecDepth 16384
noncomputable section
namespace Cert.Proj
open Idealize.ShloMosaic Idealize.SL.Sem Cert.Kernel2Ideal Cert.Kernel2Ideal.Gen

/-- Two arrays of the projection are equal when they agree at each token and column. -/
theorem entries_eq {N : ℕ} {f g : (⟨2, ![32768, N]⟩ : Shape).Idx → EReal} (h : ∀ (r : Fin 32768) (l : Fin N), f (ix2 r l) = g (ix2 r l)) : f = g :=
  funext fun i => by rw [two_coords i]; exact h _ _

theorem reference_frame : Cert.quiescent_Reference2Ideal (hReference2Ideal := Cert.Reference2Ideal.Gen.facts) := fun m ρ _ =>
  (θ_run _ _ _).mono (fun r h => ⟨fun c => (h c).2.2.2.2, sem_eq_zero_of_no_sems (by decide) r.2⟩) (Cert.Reference2Ideal.Value.run m ρ)

set_option maxHeartbeats 4000000 in
theorem algebraic : Cert.algebraic_Kernel2Ideal_Reference2Ideal (hKernel2Ideal := Cert.Kernel2Ideal.Gen.facts) (hReference2Ideal := Cert.Reference2Ideal.Gen.facts) :=
  fun m g m' g' _ hag => ⟨fun c => (dats m 0 c).arrAt 3 cfg0.N, fun c => (dats m 0 c).arrAt 4 cfg0.N, fun c => (dats m 0 c).arrAt 5 cfg0.N,
    fun c => (dats m 0 c).arrAt 6 cfg0.N, Cert.Kernel2Ideal.Value.run_blocks m g,
    (θ_run _ _ _).mono (fun r h c => ⟨
      (h c).1.trans (by
        rw [(hag c).1, (hag c).2.1, (hag c).2.2]
        refine entries_eq fun r l => Eq.trans ?_ (final_a m c r l).symm
        pointwise [entry, unitRow, stream, weights, proj]),
      (h c).2.1.trans (by
        rw [(hag c).1, (hag c).2.1, (hag c).2.2]
        refine entries_eq fun r l => Eq.trans ?_ (final_b m c r l).symm
        pointwise [entry, unitRow, stream, weights, proj]),
      (h c).2.2.1.trans (by
        rw [(hag c).1, (hag c).2.1, (hag c).2.2]
        refine entries_eq fun r l => Eq.trans ?_ (final_c m c r l).symm
        pointwise [entry, unitRow, stream, weights, proj]),
      (h c).2.2.2.1.trans (by
        rw [(hag c).1, (hag c).2.1, (hag c).2.2]
        refine entries_eq fun r l => Eq.trans ?_ (final_g m c r l).symm
        pointwise [entry, unitRow, stream, weights, proj]),
      (h c).2.2.2.2⟩) (Cert.Reference2Ideal.Value.run m' g')⟩

end Cert.Proj
end
end
-- ==== Proof.MergeBody.lean ====
module
public import proofs.«01_k».proof.Proof.Gen.Kernel3Ideal.Value
public import proofs.«01_k».proof.Proof.ProjBody
public import proofs.«01_k».proof.Proof.RetSpec
public import Idealize.ShloMosaic.Lib.Pipeline.ValueKit
public import Idealize.ShloMosaic.Lib.Pointwise
public import Idealize.ShloMosaic.Lib.Pipeline.ReadBack
@[expose] public section

/-! The merge's body: what one grid point stores in its output block. -/

set_option maxRecDepth 16384
noncomputable section
namespace Cert.Merge
open Idealize.ShloMosaic Idealize.ShloMosaic.TcCoe Idealize.SL.Sem Cert.Kernel3Ideal Cert.Kernel3Ideal.Gen
open Cert.Proj (unitRow)

/-- What the merge reads of one token: the three branches, the third's skip and gate, the three merge gates, the stream. -/
structure Token where
  ya : Fin 512 → EReal
  yb : Fin 512 → EReal
  ys : Fin 512 → EReal
  cu : Fin 512 → EReal
  cg : Fin 512 → EReal
  ga : Fin 1024 → EReal
  gb : Fin 1024 → EReal
  gc : Fin 1024 → EReal
  x : Fin 1024 → EReal

/-- One layer's weights. -/
structure Weights where
  d : Fin 512 → EReal
  gluw : Fin 512 → Fin 512 → EReal
  glub : Fin 512 → EReal
  wa : Fin 512 → Fin 1024 → EReal
  wb : Fin 512 → Fin 1024 → EReal
  wc : Fin 512 → Fin 1024 → EReal
  ba : Fin 1024 → EReal
  bb : Fin 1024 → EReal
  bc : Fin 1024 → EReal
  wo : Fin 1024 → Fin 1024 → EReal
  pn : Fin 1024 → EReal

/-- The tangent's argument and factor in the Gaussian unit. -/
def bell (y : EReal) : EReal :=
  1 + Ideal.tanh (Ideal.ofBits FTy.f32 0x3F4C422A#32 * (y + Ideal.ofBits FTy.f32 0x3D372713#32 * (y * y * y)))

def gelu (y : EReal) : EReal := Ideal.ofBits FTy.f32 0x3F000000#32 * y * bell y

variable (R : Token) (W : Weights)

/-- The third branch after its skip and the Gaussian unit. -/
def unit (k : Fin 512) : EReal := gelu (R.ys k + W.d k * R.cu k)

/-- The third branch before its gate. -/
def glu (k : Fin 512) : EReal := unit R W k * Ideal.logistic (∑ j : Fin 512, unit R W j * W.gluw j k + W.glub k)

/-- The third branch. -/
def third (k : Fin 512) : EReal := glu R W k * (R.cg k * Ideal.logistic (R.cg k))

/-- The gated sum of the three branches' projections. -/
def total (l : Fin 1024) : EReal :=
  Ideal.logistic (R.ga l + W.ba l) * ∑ k : Fin 512, R.ya k * W.wa k l
    + Ideal.logistic (R.gb l + W.bb l) * ∑ k : Fin 512, R.yb k * W.wb k l
    + Ideal.logistic (R.gc l + W.bc l) * ∑ k : Fin 512, third R W k * W.wc k l

def out (l : Fin 1024) : EReal := ∑ k : Fin 1024, total R W k * W.wo k l

/-- The layer's output for the token. -/
def result (l : Fin 1024) : EReal := R.x l + unitRow (out R W) W.pn l

section
variable (P0 : Vec Ideal S512x1024 .f32) (P1 : Vec Ideal S512x1024 .bf16) (P2 : Vec Ideal S512x512 .bf16) (P3 : Vec Ideal S1x512 .f32)
  (P4 : Vec Ideal S1x512x512 .bf16) (P5 : Vec Ideal S1x512 .f32) (P6 : Vec Ideal S512x3072 .bf16) (P7 : Vec Ideal S3x1024 .f32)
  (P8 : Vec Ideal S512x512 .bf16) (P9 : Vec Ideal S1x512x1024 .bf16) (P10 : Vec Ideal S512x512 .bf16) (P11 P12 : Vec Ideal S1x512x1024 .bf16)
  (P13 : Vec Ideal S1x1024x1024 .bf16) (P14 : Vec Ideal S1x1024 .f32)

/-- A block's token. -/
def tokenIn (r : Fin 512) : Token where
  ya k := P8 (ix2 r k)
  yb k := P10 (ix2 r k)
  ys k := P2 (ix2 r k)
  cu k := P1 (ix2 r ⟨k.val, by omega⟩)
  cg k := P1 (ix2 r ⟨512 + k.val, by omega⟩)
  ga l := P6 (ix2 r ⟨l.val, by omega⟩)
  gb l := P6 (ix2 r ⟨1024 + l.val, by omega⟩)
  gc l := P6 (ix2 r ⟨2048 + l.val, by omega⟩)
  x l := P0 (ix2 r l)

/-- The weights as the body reads them. -/
def weightsIn : Weights where
  d k := P3 (ix2 0 k)
  gluw j k := P4 (ix3 0 j k)
  glub k := P5 (ix2 0 k)
  wa k l := P9 (ix3 0 k l)
  wb k l := P11 (ix3 0 k l)
  wc k l := P12 (ix3 0 k l)
  ba l := P7 (ix2 0 l)
  bb l := P7 (ix2 1 l)
  bc l := P7 (ix2 2 l)
  wo k l := P13 (ix3 0 k l)
  pn l := P14 (ix2 0 l)

theorem glu_at (r k : Fin 512) :
    k0_pay3 P1 P2 P3 P4 P5 (ix2 r k) = glu (tokenIn P0 P1 P2 P6 P8 P10 r) (weightsIn P3 P4 P5 P7 P9 P11 P12 P13 P14) k := by
  pointwise [k0_pay3, k0_pay2]
  simp only [Cert.Ret.half_tanh]
  rfl

theorem third_at (g : FVec Ideal S512x512 .f32) (r k : Fin 512) :
    k0_pay5 g (k0_pay4 P1) (ix2 r k) = g (ix2 r k) * (P1 (ix2 r ⟨512 + k.val, by omega⟩) * Ideal.logistic (P1 (ix2 r ⟨512 + k.val, by omega⟩))) := by
  pointwise [k0_pay5, k0_pay4, k0_pay2]
  simp only [Cert.Ret.half_tanh]

theorem gate_a_at (r : Fin 512) (l : Fin 1024) :
    k0_pay8 P6 P7 P8 P9 (ix2 r l) = Ideal.logistic (P6 (ix2 r ⟨l.val, by omega⟩) + P7 (ix2 0 l)) * ∑ k : Fin 512, P8 (ix2 r k) * P9 (ix3 0 k l) := by
  pointwise [k0_pay8, k0_pay7, k0_pay6]
  simp only [Cert.Ret.half_tanh]

theorem gate_b_at (r : Fin 512) (l : Fin 1024) :
    k0_pay9 P6 P7 (ix2 r l) = Ideal.logistic (P6 (ix2 r ⟨1024 + l.val, by omega⟩) + P7 (ix2 1 l)) := by
  pointwise [k0_pay9, k0_pay7, k0_pay6]
  simp only [Cert.Ret.half_tanh]

/-- What the point stores for a token of its block. -/
theorem payload_at (r : Fin 512) (l : Fin 1024) :
    k0_pay1 (k0_pay10 (k0_pay5 (k0_pay3 P1 P2 P3 P4 P5) (k0_pay4 P1)) (k0_pay6 P6) (k0_pay7 P7) (k0_pay8 P6 P7 P8 P9) (k0_pay9 P6 P7) P10 P11 P12 P13)
      (k0_pay11 P14) P0 (ix2 r l)
      = result (tokenIn P0 P1 P2 P6 P8 P10 r) (weightsIn P3 P4 P5 P7 P9 P11 P12 P13 P14) l := by
  pointwise [k0_pay1, k0_pay10, k0_pay11, k0_pay6, k0_pay7]
  simp only [Cert.Ret.half_tanh, third_at, gate_a_at, gate_b_at, glu_at P0 P1 P2 P3 P4 P5 P6 P7 P8 P9 P10 P11 P12 P13 P14]
  rfl

end
end Cert.Merge
end
end
-- ==== Proof.MergeValue.lean ====
module
public import proofs.«01_k».proof.Proof.MergeBody
public import Idealize.ShloMosaic.Lib.StableHlo.ReadAt
@[expose] public section

/-! The merge's result array, entry by entry. -/

set_option maxRecDepth 16384
noncomputable section
namespace Cert.Merge
open Idealize.ShloMosaic Idealize.ShloMosaic.TcCoe Idealize.SL.Sem Cert.Kernel3Ideal Cert.Kernel3Ideal.Gen

variable (m : (ℓ : Loc nD τ sig) → Buf (Elt Ideal) ℓ) (c : Dev nD) (t : Fin cfg0.N)

/-- A token of the arguments. -/
def token (ya yb ys : S32768x512.Idx → EReal) (zc : S32768x1024.Idx → EReal) (zg : S32768x3072.Idx → EReal) (x : S32768x1024.Idx → EReal) (r : Fin 32768) : Token where
  ya k := ya (ix2 r k)
  yb k := yb (ix2 r k)
  ys k := ys (ix2 r k)
  cu k := zc (ix2 r ⟨k.val, by omega⟩)
  cg k := zc (ix2 r ⟨512 + k.val, by omega⟩)
  ga l := zg (ix2 r ⟨l.val, by omega⟩)
  gb l := zg (ix2 r ⟨1024 + l.val, by omega⟩)
  gc l := zg (ix2 r ⟨2048 + l.val, by omega⟩)
  x l := x (ix2 r l)

/-- The first layer's weights of the arguments. -/
def weights (d : S2x512.Idx → EReal) (gluw : S2x512x512.Idx → EReal) (glub : S2x512.Idx → EReal) (wa wb wc : S2x512x1024.Idx → EReal)
    (bm : S2x3x1024.Idx → EReal) (wo : S2x1024x1024.Idx → EReal) (pn : S2x1024.Idx → EReal) : Weights where
  d k := d (ix2 0 k)
  gluw j k := gluw (ix3 0 j k)
  glub k := glub (ix2 0 k)
  wa k l := wa (ix3 0 k l)
  wb k l := wb (ix3 0 k l)
  wc k l := wc (ix3 0 k l)
  ba l := bm (ix3 0 0 l)
  bb l := bm (ix3 0 1 l)
  bc l := bm (ix3 0 2 l)
  wo k l := wo (ix3 0 k l)
  pn l := pn (ix2 0 l)

/-- The same, of a memory's arguments. -/
def tokenOf (r : Fin 32768) : Token :=
  token (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) r
def weightsOf : Weights :=
  weights (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))

theorem rows0 : ∀ t : Fin cfg0.N, win0_0.index t 0 = t.val ∧ win0_0.index t 1 = 0 :=
  (by decide +kernel : ∀ t : Fin grid0.N, win0_0.index t 0 = t.val ∧ win0_0.index t 1 = 0)
theorem rows1 : ∀ t : Fin cfg0.N, win0_1.index t 0 = t.val ∧ win0_1.index t 1 = 0 :=
  (by decide +kernel : ∀ t : Fin grid0.N, win0_1.index t 0 = t.val ∧ win0_1.index t 1 = 0)
theorem rows2 : ∀ t : Fin cfg0.N, win0_2.index t 0 = t.val ∧ win0_2.index t 1 = 0 :=
  (by decide +kernel : ∀ t : Fin grid0.N, win0_2.index t 0 = t.val ∧ win0_2.index t 1 = 0)
theorem rows3 : ∀ t : Fin cfg0.N, win0_3.index t 0 = t.val ∧ win0_3.index t 1 = 0 :=
  (by decide +kernel : ∀ t : Fin grid0.N, win0_3.index t 0 = t.val ∧ win0_3.index t 1 = 0)
theorem rows4 : ∀ t : Fin cfg0.N, win0_4.index t 0 = t.val ∧ win0_4.index t 1 = 0 :=
  (by decide +kernel : ∀ t : Fin grid0.N, win0_4.index t 0 = t.val ∧ win0_4.index t 1 = 0)
theorem rows5 : ∀ t : Fin cfg0.N, win0_5.index t 0 = t.val ∧ win0_5.index t 1 = 0 :=
  (by decide +kernel : ∀ t : Fin grid0.N, win0_5.index t 0 = t.val ∧ win0_5.index t 1 = 0)
theorem rows15 : ∀ t : Fin cfg0.N, win0_15.index t 0 = t.val ∧ win0_15.index t 1 = 0 :=
  (by decide +kernel : ∀ t : Fin grid0.N, win0_15.index t 0 = t.val ∧ win0_15.index t 1 = 0)
theorem whole6 : ∀ t : Fin cfg0.N, win0_6.index t 0 = 0 ∧ win0_6.index t 1 = 0 :=
  (by decide +kernel : ∀ t : Fin grid0.N, win0_6.index t 0 = 0 ∧ win0_6.index t 1 = 0)
theorem whole7 : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)
theorem whole8 : ∀ t : Fin cfg0.N, win0_8.index t 0 = 0 ∧ win0_8.index t 1 = 0 :=
  (by decide +kernel : ∀ t : Fin grid0.N, win0_8.index t 0 = 0 ∧ win0_8.index t 1 = 0)
theorem whole9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem whole10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)
theorem whole11 : ∀ t : Fin cfg0.N, win0_11.index t 0 = 0 ∧ win0_11.index t 1 = 0 ∧ win0_11.index t 2 = 0 :=
  (by decide +kernel : ∀ t : Fin grid0.N, win0_11.index t 0 = 0 ∧ win0_11.index t 1 = 0 ∧ win0_11.index t 2 = 0)
theorem whole12 : ∀ t : Fin cfg0.N, win0_12.index t 0 = 0 ∧ win0_12.index t 1 = 0 :=
  (by decide +kernel : ∀ t : Fin grid0.N, win0_12.index t 0 = 0 ∧ win0_12.index t 1 = 0)
theorem whole13 : ∀ t : Fin cfg0.N, win0_13.index t 0 = 0 ∧ win0_13.index t 1 = 0 ∧ win0_13.index t 2 = 0 :=
  (by decide +kernel : ∀ t : Fin grid0.N, win0_13.index t 0 = 0 ∧ win0_13.index t 1 = 0 ∧ win0_13.index t 2 = 0)
theorem whole14 : ∀ t : Fin cfg0.N, win0_14.index t 0 = 0 ∧ win0_14.index t 1 = 0 :=
  (by decide +kernel : ∀ t : Fin grid0.N, win0_14.index t 0 = 0 ∧ win0_14.index t 1 = 0)
theorem flush15 : ∀ t : Fin cfg0.N, (cfg0.win 15).flush t = true :=
  (by decide +kernel : ∀ t : Fin grid0.N, win0_15.flush t = true)

theorem read0 (r : Fin 512) (j : Fin 512) (h : 512 * t.val + r.val < 32768) :
    (iblk m c 0 t : S512x512.Idx → EReal) (ix2 r j) = (m ((c.tc : Thread nD τ).loc main_arg0) : S32768x512.Idx → EReal) (ix2 ⟨512 * t.val + r.val, h⟩ j) := by
  blk_ext [iblk, V, rows0 t]

theorem read1 (r : Fin 512) (j : Fin 512) (h : 512 * t.val + r.val < 32768) :
    (iblk m c 1 t : S512x512.Idx → EReal) (ix2 r j) = (m ((c.tc : Thread nD τ).loc main_arg1) : S32768x512.Idx → EReal) (ix2 ⟨512 * t.val + r.val, h⟩ j) := by
  blk_ext [iblk, V, rows1 t]

theorem read2 (r : Fin 512) (j : Fin 512) (h : 512 * t.val + r.val < 32768) :
    (iblk m c 2 t : S512x512.Idx → EReal) (ix2 r j) = (m ((c.tc : Thread nD τ).loc main_arg2) : S32768x512.Idx → EReal) (ix2 ⟨512 * t.val + r.val, h⟩ j) := by
  blk_ext [iblk, V, rows2 t]

theorem read3 (r : Fin 512) (j : Fin 1024) (h : 512 * t.val + r.val < 32768) :
    (iblk m c 3 t : S512x1024.Idx → EReal) (ix2 r j) = (m ((c.tc : Thread nD τ).loc main_arg3) : S32768x1024.Idx → EReal) (ix2 ⟨512 * t.val + r.val, h⟩ j) := by
  blk_ext [iblk, V, rows3 t]

theorem read4 (r : Fin 512) (j : Fin 3072) (h : 512 * t.val + r.val < 32768) :
    (iblk m c 4 t : S512x3072.Idx → EReal) (ix2 r j) = (m ((c.tc : Thread nD τ).loc main_arg4) : S32768x3072.Idx → EReal) (ix2 ⟨512 * t.val + r.val, h⟩ j) := by
  blk_ext [iblk, V, rows4 t]

theorem read5 (r : Fin 512) (j : Fin 1024) (h : 512 * t.val + r.val < 32768) :
    (iblk m c 5 t : S512x1024.Idx → EReal) (ix2 r j) = (m ((c.tc : Thread nD τ).loc main_arg5) : S32768x1024.Idx → EReal) (ix2 ⟨512 * t.val + r.val, h⟩ j) := by
  blk_ext [iblk, V, rows5 t]

theorem read6 (j : Fin 512) : (iblk m c 6 t : S1x512.Idx → EReal) (ix2 0 j) = (m ((c.tc : Thread nD τ).loc main_arg6) : S2x512.Idx → EReal) (ix2 0 j) := by
  refine Eq.trans (b := (V m c main_v2 : S1x512.Idx → EReal) (ix2 0 j)) (by blk_ext [iblk, whole6 t]) ?_
  unfold V
  after_reads_at

theorem read8 (j : Fin 512) : (iblk m c 8 t : S1x512.Idx → EReal) (ix2 0 j) = (m ((c.tc : Thread nD τ).loc main_arg8) : S2x512.Idx → EReal) (ix2 0 j) := by
  refine Eq.trans (b := (V m c main_v6 : S1x512.Idx → EReal) (ix2 0 j)) (by blk_ext [iblk, whole8 t]) ?_
  unfold V
  after_reads_at

theorem read14 (j : Fin 1024) : (iblk m c 14 t : S1x1024.Idx → EReal) (ix2 0 j) = (m ((c.tc : Thread nD τ).loc main_arg14) : S2x1024.Idx → EReal) (ix2 0 j) := by
  refine Eq.trans (b := (V m c main_v15 : S1x1024.Idx → EReal) (ix2 0 j)) (by blk_ext [iblk, whole14 t]) ?_
  unfold V
  after_reads_at

theorem read7 (k : Fin 512) (l : Fin 512) : (iblk m c 7 t : S1x512x512.Idx → EReal) (ix3 0 k l) = (m ((c.tc : Thread nD τ).loc main_arg7) : S2x512x512.Idx → EReal) (ix3 0 k l) := by
  refine Eq.trans (b := (V m c main_v3 : S2x512x512.Idx → EReal) (ix3 0 k l)) (by blk_ext [iblk, whole7 t]) ?_
  unfold V
  after_reads_at

theorem read9 (k : Fin 512) (l : Fin 1024) : (iblk m c 9 t : S1x512x1024.Idx → EReal) (ix3 0 k l) = (m ((c.tc : Thread nD τ).loc main_arg9) : S2x512x1024.Idx → EReal) (ix3 0 k l) := by
  refine Eq.trans (b := (V m c main_v7 : S2x512x1024.Idx → EReal) (ix3 0 k l)) (by blk_ext [iblk, whole9 t]) ?_
  unfold V
  after_reads_at

theorem read10 (k : Fin 512) (l : Fin 1024) : (iblk m c 10 t : S1x512x1024.Idx → EReal) (ix3 0 k l) = (m ((c.tc : Thread nD τ).loc main_arg10) : S2x512x1024.Idx → EReal) (ix3 0 k l) := by
  refine Eq.trans (b := (V m c main_v8 : S2x512x1024.Idx → EReal) (ix3 0 k l)) (by blk_ext [iblk, whole10 t]) ?_
  unfold V
  after_reads_at

theorem read11 (k : Fin 512) (l : Fin 1024) : (iblk m c 11 t : S1x512x1024.Idx → EReal) (ix3 0 k l) = (m ((c.tc : Thread nD τ).loc main_arg11) : S2x512x1024.Idx → EReal) (ix3 0 k l) := by
  refine Eq.trans (b := (V m c main_v9 : S2x512x1024.Idx → EReal) (ix3 0 k l)) (by blk_ext [iblk, whole11 t]) ?_
  unfold V
  after_reads_at

theorem read13 (k : Fin 1024) (l : Fin 1024) : (iblk m c 13 t : S1x1024x1024.Idx → EReal) (ix3 0 k l) = (m ((c.tc : Thread nD τ).loc main_arg13) : S2x1024x1024.Idx → EReal) (ix3 0 k l) := by
  refine Eq.trans (b := (V m c main_v12 : S2x1024x1024.Idx → EReal) (ix3 0 k l)) (by blk_ext [iblk, whole13 t]) ?_
  unfold V
  after_reads_at

theorem read12 (k : Fin 3) (l : Fin 1024) : (iblk m c 12 t : S3x1024.Idx → EReal) (ix2 k l) = (m ((c.tc : Thread nD τ).loc main_arg12) : S2x3x1024.Idx → EReal) (ix3 0 k l) := by
  refine Eq.trans (b := (V m c main_v11 : S3x1024.Idx → EReal) (ix2 k l)) (by blk_ext [iblk, whole12 t]) ?_
  unfold V
  after_reads_at

/-- The grid point of a token, and the token's place in its block. -/
def point (r : Fin 32768) : Fin cfg0.N := ⟨r.val / 512, (show r.val / 512 < 64 by omega).trans_eq (by decide)⟩
def spot (r : Fin 32768) : Fin 512 := ⟨r.val % 512, by omega⟩

theorem back (r : Fin 32768) : (point r).val * 512 + (spot r).val = r.val := by
  show r.val / 512 * 512 + r.val % 512 = r.val
  omega

theorem token_back (r : Fin 512) (h : 512 * t.val + r.val < 32768) :
    tokenIn (iblk m c 5 t) (iblk m c 3 t) (iblk m c 2 t) (iblk m c 4 t) (iblk m c 0 t) (iblk m c 1 t) r = tokenOf m c ⟨512 * t.val + r.val, h⟩ := by
  unfold tokenIn tokenOf token
  simp only [read0 m c t r _ h, read1 m c t r _ h, read2 m c t r _ h, read3 m c t r _ h, read4 m c t r _ h, read5 m c t r _ h]

theorem weights_back :
    weightsIn (iblk m c 6 t) (iblk m c 7 t) (iblk m c 8 t) (iblk m c 12 t) (iblk m c 9 t) (iblk m c 10 t) (iblk m c 11 t) (iblk m c 13 t) (iblk m c 14 t) = weightsOf m c := by
  unfold weightsIn weightsOf weights
  simp only [read6, read7, read8, read9, read10, read11, read12, read13, read14]

/-- What a point stores. -/
theorem stored (r : Fin 512) (l : Fin 1024) (h : 512 * t.val + r.val < 32768) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r l)
      = result (tokenOf m c ⟨512 * t.val + r.val, h⟩) (weightsOf m c) l := by
  unfold out0_15
  frame_out
  rw [← token_back m c t r h, ← weights_back m c t]
  exact payload_at _ _ _ _ _ _ _ _ _ _ _ _ _ _ _ r l

/-- The result, entry by entry. -/
theorem final (r : Fin 32768) (l : Fin 1024) :
    ((dats m 0 c).arrAt 15 cfg0.N : S32768x1024.Idx → EReal) (ix2 r l) = result (tokenOf m c r) (weightsOf m c) l := by
  have hb := back r
  have h := congrFun (Value.blocks15 m c (point r) (flush15 _)) (ix2 (spot r) l)
  rw [Value.flushed15] at h
  refine Eq.trans ?_ (h.trans ?_)
  · symm
    blk_ext [rows15 (point r)]
    all_goals exact back r
  · refine (stored m c (point r) (spot r) l (by omega)).trans ?_
    congr 2
    exact Fin.ext (by show 512 * (point r).val + (spot r).val = r.val; omega)

end Cert.Merge
end
end
-- ==== Proof.MergeRef.lean ====
module
public import proofs.«01_k».proof.Defs
public import Idealize.ShloMosaic.Lib.Quiescent
public import proofs.«01_k».proof.Proof.MergeValue
public import proofs.«01_k».proof.Proof.Gen.Reference3Ideal.Run
@[expose] public section

/-! The merge: the reference's result is the kernel's. -/

set_option maxRecDepth 16384
noncomputable section
namespace Cert.Merge
open Idealize.ShloMosaic Idealize.SL.Sem

theorem reference_frame : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The Gaussian unit with its half on the second factor. -/
theorem gelu_factor (y : EReal) :
    y * (Ideal.ofBits FTy.f32 0x3F000000#32 * (1 + Ideal.tanh (Ideal.ofBits FTy.f32 0x3F4C422A#32 * (y + Ideal.ofBits FTy.f32 0x3D372713#32 * (y * y * y)))))
      = gelu y := by
  unfold gelu bell
  rw [← mul_assoc, mul_comm y]

open Cert.Reference3Ideal in
/-- The reference's result for a token. -/
theorem reference_at (m : (ℓ : Loc nD τ sig) → Buf (Elt Ideal) ℓ) (c : Dev nD) (r : Fin 32768) (l : Fin 1024) :
    (Value.res_main_v114 m c : S32768x1024.Idx → EReal) (ix2 r l)
      = result (token (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) r)
        (weights (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))) l := by
  pointwise [Value.res_main_v114]
  simp only [gelu_factor]
  rfl

theorem algebraic : Cert.algebraic_Kernel3Ideal_Reference3Ideal (hKernel3Ideal := Cert.Kernel3Ideal.Gen.facts) (hReference3Ideal := Cert.Reference3Ideal.Gen.facts) :=
  fun m g m' g' _ hag => ⟨fun c => (Cert.Kernel3Ideal.Gen.dats m 0 c).arrAt 15 Cert.Kernel3Ideal.cfg0.N, Cert.Kernel3Ideal.Value.run_blocks m g,
    (θ_run _ _ _).mono (fun r h c => ⟨(h c).1.trans (by
      obtain ⟨h0, h1, h2, h3, h4, h5, h6, h7, h8, h9, h10, h11, h12, h13, h14⟩ := hag c
      refine funext fun i => ?_
      rw [Cert.Proj.two_coords i]
      refine (reference_at m' c _ _).trans (Eq.trans ?_ (final m c _ _).symm)
      unfold tokenOf weightsOf
      rw [h0, h1, h2, h3, h4, h5, h6, h7, h8, h9, h10, h11, h12, h13, h14]), (h c).2⟩) (Cert.Reference3Ideal.Value.run m' g')⟩

end Cert.Merge
end
end
-- ==== Proof.NextProjBody.lean ====
module
public import proofs.«01_k».proof.Proof.Gen.Kernel5Ideal.Value
public import Idealize.ShloMosaic.Lib.Pipeline.ValueKit
public import Idealize.ShloMosaic.Lib.Pointwise
public import Idealize.ShloMosaic.Lib.Pipeline.ReadBack
@[expose] public section

/-! The second layer's input projection's body: what one grid point stores in each of its four output blocks. -/

set_option maxRecDepth 16384
noncomputable section
namespace Cert.NextProj
open Idealize.ShloMosaic Idealize.ShloMosaic.TcCoe Idealize.SL.Sem Cert.Kernel5Ideal Cert.Kernel5Ideal.Gen

/-- Entry `k` of a row divided by its root mean square and weighted. -/
def unitRow (f g : Fin 1024 → EReal) (k : Fin 1024) : EReal :=
  f k * Ideal.rsqrt (Ideal.div (∑ j : Fin 1024, f j * f j) (Ideal.ofBits FTy.f32 0x44800000#32) + Ideal.ofBits FTy.f32 0x358637BD#32) * g k

/-- An entry of the normalised block. -/
theorem normed_at (x : Vec Ideal S512x1024 .f32) (g : Vec Ideal S1x1024 .f32) (r : Fin 512) (k : Fin 1024) :
    k0_pay5 x g (ix2 r k) = unitRow (fun j => x (ix2 r j)) (fun j => g (ix2 0 j)) k := by
  pointwise [k0_pay5, unitRow]

/-- An entry of a product with 512 of the weight's columns. -/
theorem product_at (h : FVec Ideal S512x1024 .bf16) (w : Vec Ideal S1x1024x512 .bf16) (r l : Fin 512) :
    k0_pay1 h w (ix2 r l) = ∑ k : Fin 1024, h (ix2 r k) * w (ix3 0 k l) := by
  pointwise [k0_pay1]

/-- An entry of a product with 128 of the weight's columns. -/
theorem product128_at (h : FVec Ideal S512x1024 .bf16) (w : Vec Ideal S1x1024x128 .bf16) (r : Fin 512) (l : Fin 128) :
    k0_pay10 h w (ix2 r l) = ∑ k : Fin 1024, h (ix2 r k) * w (ix3 0 k l) := by
  pointwise [k0_pay10]

/-- What a block of 512 tokens projects to in column `c` of the weight. -/
def column (x : Vec Ideal S512x1024 .f32) (g : Vec Ideal S1x1024 .f32) (w : Vec Ideal S1x1024x8320 .bf16) (r : Fin 512) (c : Fin 8320) : EReal :=
  ∑ k : Fin 1024, unitRow (fun j => x (ix2 r j)) (fun j => g (ix2 0 j)) k * w (ix3 0 k c)

/-- The `N` columns of the projection that begin at column `o`. -/
def columns (x : Vec Ideal S512x1024 .f32) (g : Vec Ideal S1x1024 .f32) (w : Vec Ideal S1x1024x8320 .bf16) (o N : ℕ) (h : o + N ≤ 8320)
    (y : (⟨2, ![512, N]⟩ : Shape).Idx) : EReal :=
  column x g w (y 0) ⟨o + (y 1).val, by have hy : (y 1).val < N := (y 1).isLt; omega⟩

/-- An index of a piece, by its two coordinates. -/
theorem two_coords {M N : ℕ} (x : (⟨2, ![M, N]⟩ : Shape).Idx) : x = ix2 (x 0) (x 1) := by
  funext a
  match a with
  | 0 => rfl
  | 1 => rfl

section
variable (x : Vec Ideal S512x1024 .f32) (g : Vec Ideal S1x1024 .f32) (w : Vec Ideal S1x1024x8320 .bf16) {o N p : ℕ} (h : o + N ≤ 8320)

/-- A stored piece of 512 columns is that part of `columns`. -/
theorem piece512 (hp : ∀ a, (![0, p] : Fin 2 → ℕ) a + (![512, 512] : Fin 2 → ℕ) a ≤ (⟨2, ![512, N]⟩ : Shape).size a)
    (hw : ∀ a, (![0, 0, o + p] : Fin 3 → ℕ) a + (![1, 1024, 512] : Fin 3 → ℕ) a ≤ S1x1024x8320.size a)
    (i : (⟨2, ![512, 512]⟩ : Shape).Idx) :
    k0_pay1 (k0_pay5 x g) (View.ld w (Rect.unit (s := S1x1024x8320) ![0, 0, o + p] ![1, 1024, 512] hw)) i
      = columns x g w o N h ((Rect.unit (s := ⟨2, ![512, N]⟩) ![0, p] ![512, 512] hp).emb i) := by
  obtain ⟨r, l, rfl⟩ : ∃ (r : Fin 512) (l : Fin 512), i = ix2 r l := ⟨i 0, i 1, two_coords i⟩
  rw [product_at]
  unfold columns column
  refine Finset.sum_congr rfl fun k _ => congrArg₂ (· * ·) ?_ ?_
  · rw [normed_at]
    congr 1
    funext j
    congr 2
    exact Fin.ext (by show r.val = 0 + 1 * r.val; omega)
  · refine congrArg w (funext fun a => Fin.ext ?_)
    match a with
    | 0 => rfl
    | 1 => show 0 + 1 * k.val = k.val; omega
    | 2 => show o + p + 1 * l.val = o + (p + 1 * l.val); omega

/-- A stored piece of 128 columns is that part of `columns`. -/
theorem piece128 (hp : ∀ a, (![0, p] : Fin 2 → ℕ) a + (![512, 128] : Fin 2 → ℕ) a ≤ (⟨2, ![512, N]⟩ : Shape).size a)
    (hw : ∀ a, (![0, 0, o + p] : Fin 3 → ℕ) a + (![1, 1024, 128] : Fin 3 → ℕ) a ≤ S1x1024x8320.size a)
    (i : (⟨2, ![512, 128]⟩ : Shape).Idx) :
    k0_pay10 (k0_pay5 x g) (View.ld w (Rect.unit (s := S1x1024x8320) ![0, 0, o + p] ![1, 1024, 128] hw)) i
      = columns x g w o N h ((Rect.unit (s := ⟨2, ![512, N]⟩) ![0, p] ![512, 128] hp).emb i) := by
  obtain ⟨r, l, rfl⟩ : ∃ (r : Fin 512) (l : Fin 128), i = ix2 r l := ⟨i 0, i 1, two_coords i⟩
  rw [product128_at]
  unfold columns column
  refine Finset.sum_congr rfl fun k _ => congrArg₂ (· * ·) ?_ ?_
  · rw [normed_at]
    congr 1
    funext j
    congr 2
    exact Fin.ext (by show r.val = 0 + 1 * r.val; omega)
  · refine congrArg w (funext fun a => Fin.ext ?_)
    match a with
    | 0 => rfl
    | 1 => show 0 + 1 * k.val = k.val; omega
    | 2 => show o + p + 1 * l.val = o + (p + 1 * l.val); omega

end

variable (m : (ℓ : Loc nD τ sig) → Buf (Elt Ideal) ℓ) (c : Dev nD) (t : Fin cfg0.N)

/-- What a point stores for the first branch. -/
theorem stored_a (y : S512x2176.Idx) : (outsAt0 m c t).1 y = columns (iblk m c 0 t) (iblk m c 1 t) (iblk m c 2 t) 0 2176 (by decide) y := by
  unfold outsAt0
  frame_out
  refine View.canon_apply_of_pieces (Val := Elt Ideal) (e := .bf16) (columns (iblk m c 0 t) (iblk m c 1 t) (iblk m c 2 t) 0 2176 (by decide)) _ ?_ y
    (View.cover_of_tiledBy _ ![512, 128] (by sl_kernel_rfl) y)
  intro pc hpc
  simp only [List.mem_cons, List.not_mem_nil, or_false] at hpc
  rcases hpc with rfl | rfl | rfl | rfl | rfl
  · exact piece128 (o := 0) (p := 2048) _ _ _ (by decide) (by decide) (by decide)
  · exact piece512 (o := 0) (p := 1536) _ _ _ (by decide) (by decide) (by decide)
  · exact piece512 (o := 0) (p := 1024) _ _ _ (by decide) (by decide) (by decide)
  · exact piece512 (o := 0) (p := 512) _ _ _ (by decide) (by decide) (by decide)
  · exact piece512 (o := 0) (p := 0) _ _ _ (by decide) (by decide) (by decide)

/-- What a point stores for the second branch. -/
theorem stored_b (y : S512x2048.Idx) : (outsAt0 m c t).2.1 y = columns (iblk m c 0 t) (iblk m c 1 t) (iblk m c 2 t) 2176 2048 (by decide) y := by
  unfold outsAt0
  frame_out
  refine View.canon_apply_of_pieces (Val := Elt Ideal) (e := .bf16) (columns (iblk m c 0 t) (iblk m c 1 t) (iblk m c 2 t) 2176 2048 (by decide)) _ ?_ y
    (View.cover_of_tiledBy _ ![512, 512] (by sl_kernel_rfl) y)
  intro pc hpc
  simp only [List.mem_cons, List.not_mem_nil, or_false] at hpc
  rcases hpc with rfl | rfl | rfl | rfl
  · exact piece512 (o := 2176) (p := 1536) _ _ _ (by decide) (by decide) (by decide)
  · exact piece512 (o := 2176) (p := 1024) _ _ _ (by decide) (by decide) (by decide)
  · exact piece512 (o := 2176) (p := 512) _ _ _ (by decide) (by decide) (by decide)
  · exact piece512 (o := 2176) (p := 0) _ _ _ (by decide) (by decide) (by decide)

/-- What a point stores for the third branch. -/
theorem stored_c (y : S512x1024.Idx) : (outsAt0 m c t).2.2.1 y = columns (iblk m c 0 t) (iblk m c 1 t) (iblk m c 2 t) 4224 1024 (by decide) y := by
  unfold outsAt0
  frame_out
  refine View.canon_apply_of_pieces (Val := Elt Ideal) (e := .bf16) (columns (iblk m c 0 t) (iblk m c 1 t) (iblk m c 2 t) 4224 1024 (by decide)) _ ?_ y
    (View.cover_of_tiledBy _ ![512, 512] (by sl_kernel_rfl) y)
  intro pc hpc
  simp only [List.mem_cons, List.not_mem_nil, or_false] at hpc
  rcases hpc with rfl | rfl
  · exact piece512 (o := 4224) (p := 512) _ _ _ (by decide) (by decide) (by decide)
  · exact piece512 (o := 4224) (p := 0) _ _ _ (by decide) (by decide) (by decide)

/-- What a point stores for the merge's gates. -/
theorem stored_g (y : S512x3072.Idx) : (outsAt0 m c t).2.2.2 y = columns (iblk m c 0 t) (iblk m c 1 t) (iblk m c 2 t) 5248 3072 (by decide) y := by
  unfold outsAt0
  frame_out
  refine View.canon_apply_of_pieces (Val := Elt Ideal) (e := .bf16) (columns (iblk m c 0 t) (iblk m c 1 t) (iblk m c 2 t) 5248 3072 (by decide)) _ ?_ y
    (View.cover_of_tiledBy _ ![512, 512] (by sl_kernel_rfl) y)
  intro pc hpc
  simp only [List.mem_cons, List.not_mem_nil, or_false] at hpc
  rcases hpc with rfl | rfl | rfl | rfl | rfl | rfl
  · exact piece512 (o := 5248) (p := 2560) _ _ _ (by decide) (by decide) (by decide)
  · exact piece512 (o := 5248) (p := 2048) _ _ _ (by decide) (by decide) (by decide)
  · exact piece512 (o := 5248) (p := 1536) _ _ _ (by decide) (by decide) (by decide)
  · exact piece512 (o := 5248) (p := 1024) _ _ _ (by decide) (by decide) (by decide)
  · exact piece512 (o := 5248) (p := 512) _ _ _ (by decide) (by decide) (by decide)
  · exact piece512 (o := 5248) (p := 0) _ _ _ (by decide) (by decide) (by decide)

end Cert.NextProj
end
end
-- ==== Proof.NextProjValue.lean ====
module
public import proofs.«01_k».proof.Proof.NextProjBody
public import Idealize.ShloMosaic.Lib.StableHlo.ReadAt
public import proofs.«01_k».proof.Proof.Gen.Reference5Ideal.Run
@[expose] public section

/-! The second layer's input projection's result arrays, entry by entry, beside the reference's. -/

set_option maxRecDepth 16384
noncomputable section
namespace Cert.NextProj
open Idealize.ShloMosaic Idealize.ShloMosaic.TcCoe Idealize.SL.Sem Cert.Kernel5Ideal Cert.Kernel5Ideal.Gen

variable (m : (ℓ : Loc nD τ sig) → Buf (Elt Ideal) ℓ) (c : Dev nD) (t : Fin cfg0.N)

/-- The stream, the second layer's norm weights and the second layer's projection, of the arguments. -/
def stream : S32768x1024.Idx → EReal := m ((c.tc : Thread nD τ).loc main_arg0)
def weights : S2x1024.Idx → EReal := m ((c.tc : Thread nD τ).loc main_arg1)
def proj : S2x1024x8320.Idx → EReal := m ((c.tc : Thread nD τ).loc main_arg2)

theorem rows0 : ∀ t : Fin cfg0.N, win0_0.index t 0 = t.val ∧ win0_0.index t 1 = 0 :=
  (by decide +kernel : ∀ t : Fin grid0.N, win0_0.index t 0 = t.val ∧ win0_0.index t 1 = 0)
theorem whole1 : ∀ t : Fin cfg0.N, win0_1.index t 0 = 0 ∧ win0_1.index t 1 = 0 :=
  (by decide +kernel : ∀ t : Fin grid0.N, win0_1.index t 0 = 0 ∧ win0_1.index t 1 = 0)
theorem second2 : ∀ t : Fin cfg0.N, win0_2.index t 0 = 1 ∧ win0_2.index t 1 = 0 ∧ win0_2.index t 2 = 0 :=
  (by decide +kernel : ∀ t : Fin grid0.N, win0_2.index t 0 = 1 ∧ win0_2.index t 1 = 0 ∧ win0_2.index t 2 = 0)
theorem rows3 : ∀ t : Fin cfg0.N, win0_3.index t 0 = t.val ∧ win0_3.index t 1 = 0 :=
  (by decide +kernel : ∀ t : Fin grid0.N, win0_3.index t 0 = t.val ∧ win0_3.index t 1 = 0)
theorem flush3 : ∀ t : Fin cfg0.N, (cfg0.win 3).flush t = true :=
  (by decide +kernel : ∀ t : Fin grid0.N, win0_3.flush t = true)
theorem rows4 : ∀ t : Fin cfg0.N, win0_4.index t 0 = t.val ∧ win0_4.index t 1 = 0 :=
  (by decide +kernel : ∀ t : Fin grid0.N, win0_4.index t 0 = t.val ∧ win0_4.index t 1 = 0)
theorem flush4 : ∀ t : Fin cfg0.N, (cfg0.win 4).flush t = true :=
  (by decide +kernel : ∀ t : Fin grid0.N, win0_4.flush t = true)
theorem rows5 : ∀ t : Fin cfg0.N, win0_5.index t 0 = t.val ∧ win0_5.index t 1 = 0 :=
  (by decide +kernel : ∀ t : Fin grid0.N, win0_5.index t 0 = t.val ∧ win0_5.index t 1 = 0)
theorem flush5 : ∀ t : Fin cfg0.N, (cfg0.win 5).flush t = true :=
  (by decide +kernel : ∀ t : Fin grid0.N, win0_5.flush t = true)
theorem rows6 : ∀ t : Fin cfg0.N, win0_6.index t 0 = t.val ∧ win0_6.index t 1 = 0 :=
  (by decide +kernel : ∀ t : Fin grid0.N, win0_6.index t 0 = t.val ∧ win0_6.index t 1 = 0)
theorem flush6 : ∀ t : Fin cfg0.N, (cfg0.win 6).flush t = true :=
  (by decide +kernel : ∀ t : Fin grid0.N, win0_6.flush t = true)

theorem x_at (r : Fin 512) (j : Fin 1024) (h : 512 * t.val + r.val < 32768) :
    (iblk m c 0 t : S512x1024.Idx → EReal) (ix2 r j) = stream m c (ix2 ⟨512 * t.val + r.val, h⟩ j) := by
  unfold stream
  blk_ext [iblk, V, rows0 t]

theorem g_at (j : Fin 1024) : (iblk m c 1 t : S1x1024.Idx → EReal) (ix2 0 j) = weights m c (ix2 1 j) := by
  refine Eq.trans (b := (V m c main_v2 : S1x1024.Idx → EReal) (ix2 0 j)) (by blk_ext [iblk, whole1 t]) ?_
  unfold V weights
  after_reads_at

theorem w_at (k : Fin 1024) (l : Fin 8320) : (iblk m c 2 t : S1x1024x8320.Idx → EReal) (ix3 0 k l) = proj m c (ix3 1 k l) := by
  refine Eq.trans (b := (V m c main_v3 : S2x1024x8320.Idx → EReal) (ix3 1 k l)) (by blk_ext [iblk, second2 t]) ?_
  unfold V proj
  after_reads_at

/-- What token `r` projects to in column `l`. -/
def entry (x : S32768x1024.Idx → EReal) (g : S2x1024.Idx → EReal) (w : S2x1024x8320.Idx → EReal) (r : Fin 32768) (l : Fin 8320) : EReal :=
  ∑ k : Fin 1024, unitRow (fun j => x (ix2 r j)) (fun j => g (ix2 1 j)) k * w (ix3 1 k l)

theorem column_at (r : Fin 512) (l : Fin 8320) (h : 512 * t.val + r.val < 32768) :
    column (iblk m c 0 t) (iblk m c 1 t) (iblk m c 2 t) r l = entry (stream m c) (weights m c) (proj m c) ⟨512 * t.val + r.val, h⟩ l := by
  unfold column entry
  simp only [x_at m c t r _ h, g_at, w_at]

/-- The grid point of a token, and the token's place in its block. -/
def point (r : Fin 32768) : Fin cfg0.N := ⟨r.val / 512, (show r.val / 512 < 64 by omega).trans_eq (by decide)⟩
def spot (r : Fin 32768) : Fin 512 := ⟨r.val % 512, by omega⟩

theorem back (r : Fin 32768) : (point r).val * 512 + (spot r).val = r.val := by
  show r.val / 512 * 512 + r.val % 512 = r.val
  omega

theorem column_back (r : Fin 32768) (l : Fin 8320) :
    column (iblk m c 0 (point r)) (iblk m c 1 (point r)) (iblk m c 2 (point r)) (spot r) l = entry (stream m c) (weights m c) (proj m c) r l := by
  have hb := back r
  rw [column_at m c (point r) (spot r) l (by omega)]
  congr 1
  exact Fin.ext (by show 512 * (point r).val + (spot r).val = r.val; omega)

/-- The result for the first branch, entry by entry. -/
theorem final_a (r : Fin 32768) (l : Fin 2176) :
    ((dats m 0 c).arrAt 3 cfg0.N : S32768x2176.Idx → EReal) (ix2 r l) = entry (stream m c) (weights m c) (proj m c) r ⟨0 + l.val, by omega⟩ := by
  have h := congrFun (Value.blocks3 m c (point r) (flush3 _)) (ix2 (spot r) l)
  rw [Value.flushed3] at h
  refine Eq.trans ?_ (h.trans ?_)
  · symm
    blk_ext [rows3 (point r)]
    all_goals exact back r
  · exact (stored_a m c _ _).trans (column_back m c r _)

/-- The result for the second branch, entry by entry. -/
theorem final_b (r : Fin 32768) (l : Fin 2048) :
    ((dats m 0 c).arrAt 4 cfg0.N : S32768x2048.Idx → EReal) (ix2 r l) = entry (stream m c) (weights m c) (proj m c) r ⟨2176 + l.val, by omega⟩ := by
  have h := congrFun (Value.blocks4 m c (point r) (flush4 _)) (ix2 (spot r) l)
  rw [Value.flushed4] at h
  refine Eq.trans ?_ (h.trans ?_)
  · symm
    blk_ext [rows4 (point r)]
    all_goals exact back r
  · exact (stored_b m c _ _).trans (column_back m c r _)

/-- The result for the third branch, entry by entry. -/
theorem final_c (r : Fin 32768) (l : Fin 1024) :
    ((dats m 0 c).arrAt 5 cfg0.N : S32768x1024.Idx → EReal) (ix2 r l) = entry (stream m c) (weights m c) (proj m c) r ⟨4224 + l.val, by omega⟩ := by
  have h := congrFun (Value.blocks5 m c (point r) (flush5 _)) (ix2 (spot r) l)
  rw [Value.flushed5] at h
  refine Eq.trans ?_ (h.trans ?_)
  · symm
    blk_ext [rows5 (point r)]
    all_goals exact back r
  · exact (stored_c m c _ _).trans (column_back m c r _)

/-- The result for the merge's gates, entry by entry. -/
theorem final_g (r : Fin 32768) (l : Fin 3072) :
    ((dats m 0 c).arrAt 6 cfg0.N : S32768x3072.Idx → EReal) (ix2 r l) = entry (stream m c) (weights m c) (proj m c) r ⟨5248 + l.val, by omega⟩ := by
  have h := congrFun (Value.blocks6 m c (point r) (flush6 _)) (ix2 (spot r) l)
  rw [Value.flushed6] at h
  refine Eq.trans ?_ (h.trans ?_)
  · symm
    blk_ext [rows6 (point r)]
    all_goals exact back r
  · exact (stored_g m c _ _).trans (column_back m c r _)

end Cert.NextProj
end
end
-- ==== Proof.NextProjRef.lean ====
module
public import proofs.«01_k».proof.Defs
public import Idealize.ShloMosaic.Lib.Quiescent
public import proofs.«01_k».proof.Proof.NextProjValue
@[expose] public section

/-! The second layer's input projection: the reference's four results are the kernel's. -/

set_option maxRecDepth 16384
noncomputable section
namespace Cert.NextProj
open Idealize.ShloMosaic Idealize.SL.Sem Cert.Kernel5Ideal Cert.Kernel5Ideal.Gen

/-- Two arrays of the projection are equal when they agree at each token and column. -/
theorem entries_eq {N : ℕ} {f g : (⟨2, ![32768, N]⟩ : Shape).Idx → EReal} (h : ∀ (r : Fin 32768) (l : Fin N), f (ix2 r l) = g (ix2 r l)) : f = g :=
  funext fun i => by rw [two_coords i]; exact h _ _

theorem reference_frame : Cert.quiescent_Reference5Ideal (hReference5Ideal := Cert.Reference5Ideal.Gen.facts) := fun m ρ _ =>
  (θ_run _ _ _).mono (fun r h => ⟨fun c => (h c).2.2.2.2, sem_eq_zero_of_no_sems (by decide) r.2⟩) (Cert.Reference5Ideal.Value.run m ρ)

set_option maxHeartbeats 4000000 in
theorem algebraic : Cert.algebraic_Kernel5Ideal_Reference5Ideal (hKernel5Ideal := Cert.Kernel5Ideal.Gen.facts) (hReference5Ideal := Cert.Reference5Ideal.Gen.facts) :=
  fun m g m' g' _ hag => ⟨fun c => (dats m 0 c).arrAt 3 cfg0.N, fun c => (dats m 0 c).arrAt 4 cfg0.N, fun c => (dats m 0 c).arrAt 5 cfg0.N,
    fun c => (dats m 0 c).arrAt 6 cfg0.N, Cert.Kernel5Ideal.Value.run_blocks m g,
    (θ_run _ _ _).mono (fun r h c => ⟨
      (h c).1.trans (by
        rw [(hag c).1, (hag c).2.1, (hag c).2.2]
        refine entries_eq fun r l => Eq.trans ?_ (final_a m c r l).symm
        pointwise [entry, unitRow, stream, weights, proj]),
      (h c).2.1.trans (by
        rw [(hag c).1, (hag c).2.1, (hag c).2.2]
        refine entries_eq fun r l => Eq.trans ?_ (final_b m c r l).symm
        pointwise [entry, unitRow, stream, weights, proj]),
      (h c).2.2.1.trans (by
        rw [(hag c).1, (hag c).2.1, (hag c).2.2]
        refine entries_eq fun r l => Eq.trans ?_ (final_c m c r l).symm
        pointwise [entry, unitRow, stream, weights, proj]),
      (h c).2.2.2.1.trans (by
        rw [(hag c).1, (hag c).2.1, (hag c).2.2]
        refine entries_eq fun r l => Eq.trans ?_ (final_g m c r l).symm
        pointwise [entry, unitRow, stream, weights, proj]),
      (h c).2.2.2.2⟩) (Cert.Reference5Ideal.Value.run m' g')⟩

end Cert.NextProj
end
end
-- ==== Proof.NextMergeBody.lean ====
module
public import proofs.«01_k».proof.Proof.Gen.Kernel6Ideal.Value
public import proofs.«01_k».proof.Proof.NextProjBody
public import proofs.«01_k».proof.Proof.RetSpec
public import Idealize.ShloMosaic.Lib.Pipeline.ValueKit
public import Idealize.ShloMosaic.Lib.Pointwise
public import Idealize.ShloMosaic.Lib.Pipeline.ReadBack
@[expose] public section

/-! The second layer's merge's body: what one grid point stores in its output block. -/

set_option maxRecDepth 16384
noncomputable section
namespace Cert.NextMerge
open Idealize.ShloMosaic Idealize.ShloMosaic.TcCoe Idealize.SL.Sem Cert.Kernel6Ideal Cert.Kernel6Ideal.Gen
open Cert.NextProj (unitRow)

/-- What the merge reads of one token: the three branches, the third's skip and gate, the three merge gates, the stream. -/
structure Token where
  ya : Fin 512 → EReal
  yb : Fin 512 → EReal
  ys : Fin 512 → EReal
  cu : Fin 512 → EReal
  cg : Fin 512 → EReal
  ga : Fin 1024 → EReal
  gb : Fin 1024 → EReal
  gc : Fin 1024 → EReal
  x : Fin 1024 → EReal

/-- One layer's weights. -/
structure Weights where
  d : Fin 512 → EReal
  gluw : Fin 512 → Fin 512 → EReal
  glub : Fin 512 → EReal
  wa : Fin 512 → Fin 1024 → EReal
  wb : Fin 512 → Fin 1024 → EReal
  wc : Fin 512 → Fin 1024 → EReal
  ba : Fin 1024 → EReal
  bb : Fin 1024 → EReal
  bc : Fin 1024 → EReal
  wo : Fin 1024 → Fin 1024 → EReal
  pn : Fin 1024 → EReal

/-- The tangent's argument and factor in the Gaussian unit. -/
def bell (y : EReal) : EReal :=
  1 + Ideal.tanh (Ideal.ofBits FTy.f32 0x3F4C422A#32 * (y + Ideal.ofBits FTy.f32 0x3D372713#32 * (y * y * y)))

def gelu (y : EReal) : EReal := Ideal.ofBits FTy.f32 0x3F000000#32 * y * bell y

variable (R : Token) (W : Weights)

/-- The third branch after its skip and the Gaussian unit. -/
def unit (k : Fin 512) : EReal := gelu (R.ys k + W.d k * R.cu k)

/-- The third branch before its gate. -/
def glu (k : Fin 512) : EReal := unit R W k * Ideal.logistic (∑ j : Fin 512, unit R W j * W.gluw j k + W.glub k)

/-- The third branch. -/
def third (k : Fin 512) : EReal := glu R W k * (R.cg k * Ideal.logistic (R.cg k))

/-- The gated sum of the three branches' projections. -/
def total (l : Fin 1024) : EReal :=
  Ideal.logistic (R.ga l + W.ba l) * ∑ k : Fin 512, R.ya k * W.wa k l
    + Ideal.logistic (R.gb l + W.bb l) * ∑ k : Fin 512, R.yb k * W.wb k l
    + Ideal.logistic (R.gc l + W.bc l) * ∑ k : Fin 512, third R W k * W.wc k l

def out (l : Fin 1024) : EReal := ∑ k : Fin 1024, total R W k * W.wo k l

/-- The layer's output for the token. -/
def result (l : Fin 1024) : EReal := R.x l + unitRow (out R W) W.pn l

section
variable (P0 : Vec Ideal S512x1024 .f32) (P1 : Vec Ideal S512x1024 .bf16) (P2 : Vec Ideal S512x512 .bf16) (P3 : Vec Ideal S1x512 .f32)
  (P4 : Vec Ideal S1x512x512 .bf16) (P5 : Vec Ideal S1x512 .f32) (P6 : Vec Ideal S512x3072 .bf16) (P7 : Vec Ideal S3x1024 .f32)
  (P8 : Vec Ideal S512x512 .bf16) (P9 : Vec Ideal S1x512x1024 .bf16) (P10 : Vec Ideal S512x512 .bf16) (P11 P12 : Vec Ideal S1x512x1024 .bf16)
  (P13 : Vec Ideal S1x1024x1024 .bf16) (P14 : Vec Ideal S1x1024 .f32)

/-- A block's token. -/
def tokenIn (r : Fin 512) : Token where
  ya k := P8 (ix2 r k)
  yb k := P10 (ix2 r k)
  ys k := P2 (ix2 r k)
  cu k := P1 (ix2 r ⟨k.val, by omega⟩)
  cg k := P1 (ix2 r ⟨512 + k.val, by omega⟩)
  ga l := P6 (ix2 r ⟨l.val, by omega⟩)
  gb l := P6 (ix2 r ⟨1024 + l.val, by omega⟩)
  gc l := P6 (ix2 r ⟨2048 + l.val, by omega⟩)
  x l := P0 (ix2 r l)

/-- The weights as the body reads them. -/
def weightsIn : Weights where
  d k := P3 (ix2 0 k)
  gluw j k := P4 (ix3 0 j k)
  glub k := P5 (ix2 0 k)
  wa k l := P9 (ix3 0 k l)
  wb k l := P11 (ix3 0 k l)
  wc k l := P12 (ix3 0 k l)
  ba l := P7 (ix2 0 l)
  bb l := P7 (ix2 1 l)
  bc l := P7 (ix2 2 l)
  wo k l := P13 (ix3 0 k l)
  pn l := P14 (ix2 0 l)

theorem glu_at (r k : Fin 512) :
    k0_pay3 P1 P2 P3 P4 P5 (ix2 r k) = glu (tokenIn P0 P1 P2 P6 P8 P10 r) (weightsIn P3 P4 P5 P7 P9 P11 P12 P13 P14) k := by
  pointwise [k0_pay3, k0_pay2]
  simp only [Cert.Ret.half_tanh]
  rfl

theorem third_at (g : FVec Ideal S512x512 .f32) (r k : Fin 512) :
    k0_pay5 g (k0_pay4 P1) (ix2 r k) = g (ix2 r k) * (P1 (ix2 r ⟨512 + k.val, by omega⟩) * Ideal.logistic (P1 (ix2 r ⟨512 + k.val, by omega⟩))) := by
  pointwise [k0_pay5, k0_pay4, k0_pay2]
  simp only [Cert.Ret.half_tanh]

theorem gate_a_at (r : Fin 512) (l : Fin 1024) :
    k0_pay8 P6 P7 P8 P9 (ix2 r l) = Ideal.logistic (P6 (ix2 r ⟨l.val, by omega⟩) + P7 (ix2 0 l)) * ∑ k : Fin 512, P8 (ix2 r k) * P9 (ix3 0 k l) := by
  pointwise [k0_pay8, k0_pay7, k0_pay6]
  simp only [Cert.Ret.half_tanh]

theorem gate_b_at (r : Fin 512) (l : Fin 1024) :
    k0_pay9 P6 P7 (ix2 r l) = Ideal.logistic (P6 (ix2 r ⟨1024 + l.val, by omega⟩) + P7 (ix2 1 l)) := by
  pointwise [k0_pay9, k0_pay7, k0_pay6]
  simp only [Cert.Ret.half_tanh]

/-- What the point stores for a token of its block. -/
theorem payload_at (r : Fin 512) (l : Fin 1024) :
    k0_pay1 (k0_pay10 (k0_pay5 (k0_pay3 P1 P2 P3 P4 P5) (k0_pay4 P1)) (k0_pay6 P6) (k0_pay7 P7) (k0_pay8 P6 P7 P8 P9) (k0_pay9 P6 P7) P10 P11 P12 P13)
      (k0_pay11 P14) P0 (ix2 r l)
      = result (tokenIn P0 P1 P2 P6 P8 P10 r) (weightsIn P3 P4 P5 P7 P9 P11 P12 P13 P14) l := by
  pointwise [k0_pay1, k0_pay10, k0_pay11, k0_pay6, k0_pay7]
  simp only [Cert.Ret.half_tanh, third_at, gate_a_at, gate_b_at, glu_at P0 P1 P2 P3 P4 P5 P6 P7 P8 P9 P10 P11 P12 P13 P14]
  rfl

end
end Cert.NextMerge
end
end
-- ==== Proof.NextMergeValue.lean ====
module
public import proofs.«01_k».proof.Proof.NextMergeBody
public import Idealize.ShloMosaic.Lib.StableHlo.ReadAt
@[expose] public section

/-! The second layer's merge's result array, entry by entry. -/

set_option maxRecDepth 16384
noncomputable section
namespace Cert.NextMerge
open Idealize.ShloMosaic Idealize.ShloMosaic.TcCoe Idealize.SL.Sem Cert.Kernel6Ideal Cert.Kernel6Ideal.Gen

variable (m : (ℓ : Loc nD τ sig) → Buf (Elt Ideal) ℓ) (c : Dev nD) (t : Fin cfg0.N)

/-- A token of the arguments. -/
def token (ya yb ys : S32768x512.Idx → EReal) (zc : S32768x1024.Idx → EReal) (zg : S32768x3072.Idx → EReal) (x : S32768x1024.Idx → EReal) (r : Fin 32768) : Token where
  ya k := ya (ix2 r k)
  yb k := yb (ix2 r k)
  ys k := ys (ix2 r k)
  cu k := zc (ix2 r ⟨k.val, by omega⟩)
  cg k := zc (ix2 r ⟨512 + k.val, by omega⟩)
  ga l := zg (ix2 r ⟨l.val, by omega⟩)
  gb l := zg (ix2 r ⟨1024 + l.val, by omega⟩)
  gc l := zg (ix2 r ⟨2048 + l.val, by omega⟩)
  x l := x (ix2 r l)

/-- The second layer's weights of the arguments. -/
def weights (d : S2x512.Idx → EReal) (gluw : S2x512x512.Idx → EReal) (glub : S2x512.Idx → EReal) (wa wb wc : S2x512x1024.Idx → EReal)
    (bm : S2x3x1024.Idx → EReal) (wo : S2x1024x1024.Idx → EReal) (pn : S2x1024.Idx → EReal) : Weights where
  d k := d (ix2 1 k)
  gluw j k := gluw (ix3 1 j k)
  glub k := glub (ix2 1 k)
  wa k l := wa (ix3 1 k l)
  wb k l := wb (ix3 1 k l)
  wc k l := wc (ix3 1 k l)
  ba l := bm (ix3 1 0 l)
  bb l := bm (ix3 1 1 l)
  bc l := bm (ix3 1 2 l)
  wo k l := wo (ix3 1 k l)
  pn l := pn (ix2 1 l)

/-- The same, of a memory's arguments. -/
def tokenOf (r : Fin 32768) : Token :=
  token (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) r
def weightsOf : Weights :=
  weights (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))

theorem rows0 : ∀ t : Fin cfg0.N, win0_0.index t 0 = t.val ∧ win0_0.index t 1 = 0 :=
  (by decide +kernel : ∀ t : Fin grid0.N, win0_0.index t 0 = t.val ∧ win0_0.index t 1 = 0)
theorem rows1 : ∀ t : Fin cfg0.N, win0_1.index t 0 = t.val ∧ win0_1.index t 1 = 0 :=
  (by decide +kernel : ∀ t : Fin grid0.N, win0_1.index t 0 = t.val ∧ win0_1.index t 1 = 0)
theorem rows2 : ∀ t : Fin cfg0.N, win0_2.index t 0 = t.val ∧ win0_2.index t 1 = 0 :=
  (by decide +kernel : ∀ t : Fin grid0.N, win0_2.index t 0 = t.val ∧ win0_2.index t 1 = 0)
theorem rows3 : ∀ t : Fin cfg0.N, win0_3.index t 0 = t.val ∧ win0_3.index t 1 = 0 :=
  (by decide +kernel : ∀ t : Fin grid0.N, win0_3.index t 0 = t.val ∧ win0_3.index t 1 = 0)
theorem rows4 : ∀ t : Fin cfg0.N, win0_4.index t 0 = t.val ∧ win0_4.index t 1 = 0 :=
  (by decide +kernel : ∀ t : Fin grid0.N, win0_4.index t 0 = t.val ∧ win0_4.index t 1 = 0)
theorem rows5 : ∀ t : Fin cfg0.N, win0_5.index t 0 = t.val ∧ win0_5.index t 1 = 0 :=
  (by decide +kernel : ∀ t : Fin grid0.N, win0_5.index t 0 = t.val ∧ win0_5.index t 1 = 0)
theorem rows15 : ∀ t : Fin cfg0.N, win0_15.index t 0 = t.val ∧ win0_15.index t 1 = 0 :=
  (by decide +kernel : ∀ t : Fin grid0.N, win0_15.index t 0 = t.val ∧ win0_15.index t 1 = 0)
theorem whole6 : ∀ t : Fin cfg0.N, win0_6.index t 0 = 0 ∧ win0_6.index t 1 = 0 :=
  (by decide +kernel : ∀ t : Fin grid0.N, win0_6.index t 0 = 0 ∧ win0_6.index t 1 = 0)
theorem whole7 : ∀ t : Fin cfg0.N, win0_7.index t 0 = 1 ∧ win0_7.index t 1 = 0 ∧ win0_7.index t 2 = 0 :=
  (by decide +kernel : ∀ t : Fin grid0.N, win0_7.index t 0 = 1 ∧ win0_7.index t 1 = 0 ∧ win0_7.index t 2 = 0)
theorem whole8 : ∀ t : Fin cfg0.N, win0_8.index t 0 = 0 ∧ win0_8.index t 1 = 0 :=
  (by decide +kernel : ∀ t : Fin grid0.N, win0_8.index t 0 = 0 ∧ win0_8.index t 1 = 0)
theorem whole9 : ∀ t : Fin cfg0.N, win0_9.index t 0 = 1 ∧ win0_9.index t 1 = 0 ∧ win0_9.index t 2 = 0 :=
  (by decide +kernel : ∀ t : Fin grid0.N, win0_9.index t 0 = 1 ∧ win0_9.index t 1 = 0 ∧ win0_9.index t 2 = 0)
theorem whole10 : ∀ t : Fin cfg0.N, win0_10.index t 0 = 1 ∧ win0_10.index t 1 = 0 ∧ win0_10.index t 2 = 0 :=
  (by decide +kernel : ∀ t : Fin grid0.N, win0_10.index t 0 = 1 ∧ win0_10.index t 1 = 0 ∧ win0_10.index t 2 = 0)
theorem whole11 : ∀ t : Fin cfg0.N, win0_11.index t 0 = 1 ∧ win0_11.index t 1 = 0 ∧ win0_11.index t 2 = 0 :=
  (by decide +kernel : ∀ t : Fin grid0.N, win0_11.index t 0 = 1 ∧ win0_11.index t 1 = 0 ∧ win0_11.index t 2 = 0)
theorem whole12 : ∀ t : Fin cfg0.N, win0_12.index t 0 = 0 ∧ win0_12.index t 1 = 0 :=
  (by decide +kernel : ∀ t : Fin grid0.N, win0_12.index t 0 = 0 ∧ win0_12.index t 1 = 0)
theorem whole13 : ∀ t : Fin cfg0.N, win0_13.index t 0 = 1 ∧ win0_13.index t 1 = 0 ∧ win0_13.index t 2 = 0 :=
  (by decide +kernel : ∀ t : Fin grid0.N, win0_13.index t 0 = 1 ∧ win0_13.index t 1 = 0 ∧ win0_13.index t 2 = 0)
theorem whole14 : ∀ t : Fin cfg0.N, win0_14.index t 0 = 0 ∧ win0_14.index t 1 = 0 :=
  (by decide +kernel : ∀ t : Fin grid0.N, win0_14.index t 0 = 0 ∧ win0_14.index t 1 = 0)
theorem flush15 : ∀ t : Fin cfg0.N, (cfg0.win 15).flush t = true :=
  (by decide +kernel : ∀ t : Fin grid0.N, win0_15.flush t = true)

theorem read0 (r : Fin 512) (j : Fin 512) (h : 512 * t.val + r.val < 32768) :
    (iblk m c 0 t : S512x512.Idx → EReal) (ix2 r j) = (m ((c.tc : Thread nD τ).loc main_arg0) : S32768x512.Idx → EReal) (ix2 ⟨512 * t.val + r.val, h⟩ j) := by
  blk_ext [iblk, V, rows0 t]

theorem read1 (r : Fin 512) (j : Fin 512) (h : 512 * t.val + r.val < 32768) :
    (iblk m c 1 t : S512x512.Idx → EReal) (ix2 r j) = (m ((c.tc : Thread nD τ).loc main_arg1) : S32768x512.Idx → EReal) (ix2 ⟨512 * t.val + r.val, h⟩ j) := by
  blk_ext [iblk, V, rows1 t]

theorem read2 (r : Fin 512) (j : Fin 512) (h : 512 * t.val + r.val < 32768) :
    (iblk m c 2 t : S512x512.Idx → EReal) (ix2 r j) = (m ((c.tc : Thread nD τ).loc main_arg2) : S32768x512.Idx → EReal) (ix2 ⟨512 * t.val + r.val, h⟩ j) := by
  blk_ext [iblk, V, rows2 t]

theorem read3 (r : Fin 512) (j : Fin 1024) (h : 512 * t.val + r.val < 32768) :
    (iblk m c 3 t : S512x1024.Idx → EReal) (ix2 r j) = (m ((c.tc : Thread nD τ).loc main_arg3) : S32768x1024.Idx → EReal) (ix2 ⟨512 * t.val + r.val, h⟩ j) := by
  blk_ext [iblk, V, rows3 t]

theorem read4 (r : Fin 512) (j : Fin 3072) (h : 512 * t.val + r.val < 32768) :
    (iblk m c 4 t : S512x3072.Idx → EReal) (ix2 r j) = (m ((c.tc : Thread nD τ).loc main_arg4) : S32768x3072.Idx → EReal) (ix2 ⟨512 * t.val + r.val, h⟩ j) := by
  blk_ext [iblk, V, rows4 t]

theorem read5 (r : Fin 512) (j : Fin 1024) (h : 512 * t.val + r.val < 32768) :
    (iblk m c 5 t : S512x1024.Idx → EReal) (ix2 r j) = (m ((c.tc : Thread nD τ).loc main_arg5) : S32768x1024.Idx → EReal) (ix2 ⟨512 * t.val + r.val, h⟩ j) := by
  blk_ext [iblk, V, rows5 t]

theorem read6 (j : Fin 512) : (iblk m c 6 t : S1x512.Idx → EReal) (ix2 0 j) = (m ((c.tc : Thread nD τ).loc main_arg6) : S2x512.Idx → EReal) (ix2 1 j) := by
  refine Eq.trans (b := (V m c main_v2 : S1x512.Idx → EReal) (ix2 0 j)) (by blk_ext [iblk, whole6 t]) ?_
  unfold V
  after_reads_at

theorem read8 (j : Fin 512) : (iblk m c 8 t : S1x512.Idx → EReal) (ix2 0 j) = (m ((c.tc : Thread nD τ).loc main_arg8) : S2x512.Idx → EReal) (ix2 1 j) := by
  refine Eq.trans (b := (V m c main_v6 : S1x512.Idx → EReal) (ix2 0 j)) (by blk_ext [iblk, whole8 t]) ?_
  unfold V
  after_reads_at

theorem read14 (j : Fin 1024) : (iblk m c 14 t : S1x1024.Idx → EReal) (ix2 0 j) = (m ((c.tc : Thread nD τ).loc main_arg14) : S2x1024.Idx → EReal) (ix2 1 j) := by
  refine Eq.trans (b := (V m c main_v15 : S1x1024.Idx → EReal) (ix2 0 j)) (by blk_ext [iblk, whole14 t]) ?_
  unfold V
  after_reads_at

theorem read7 (k : Fin 512) (l : Fin 512) : (iblk m c 7 t : S1x512x512.Idx → EReal) (ix3 0 k l) = (m ((c.tc : Thread nD τ).loc main_arg7) : S2x512x512.Idx → EReal) (ix3 1 k l) := by
  refine Eq.trans (b := (V m c main_v3 : S2x512x512.Idx → EReal) (ix3 1 k l)) (by blk_ext [iblk, whole7 t]) ?_
  unfold V
  after_reads_at

theorem read9 (k : Fin 512) (l : Fin 1024) : (iblk m c 9 t : S1x512x1024.Idx → EReal) (ix3 0 k l) = (m ((c.tc : Thread nD τ).loc main_arg9) : S2x512x1024.Idx → EReal) (ix3 1 k l) := by
  refine Eq.trans (b := (V m c main_v7 : S2x512x1024.Idx → EReal) (ix3 1 k l)) (by blk_ext [iblk, whole9 t]) ?_
  unfold V
  after_reads_at

theorem read10 (k : Fin 512) (l : Fin 1024) : (iblk m c 10 t : S1x512x1024.Idx → EReal) (ix3 0 k l) = (m ((c.tc : Thread nD τ).loc main_arg10) : S2x512x1024.Idx → EReal) (ix3 1 k l) := by
  refine Eq.trans (b := (V m c main_v8 : S2x512x1024.Idx → EReal) (ix3 1 k l)) (by blk_ext [iblk, whole10 t]) ?_
  unfold V
  after_reads_at

theorem read11 (k : Fin 512) (l : Fin 1024) : (iblk m c 11 t : S1x512x1024.Idx → EReal) (ix3 0 k l) = (m ((c.tc : Thread nD τ).loc main_arg11) : S2x512x1024.Idx → EReal) (ix3 1 k l) := by
  refine Eq.trans (b := (V m c main_v9 : S2x512x1024.Idx → EReal) (ix3 1 k l)) (by blk_ext [iblk, whole11 t]) ?_
  unfold V
  after_reads_at

theorem read13 (k : Fin 1024) (l : Fin 1024) : (iblk m c 13 t : S1x1024x1024.Idx → EReal) (ix3 0 k l) = (m ((c.tc : Thread nD τ).loc main_arg13) : S2x1024x1024.Idx → EReal) (ix3 1 k l) := by
  refine Eq.trans (b := (V m c main_v12 : S2x1024x1024.Idx → EReal) (ix3 1 k l)) (by blk_ext [iblk, whole13 t]) ?_
  unfold V
  after_reads_at

theorem read12 (k : Fin 3) (l : Fin 1024) : (iblk m c 12 t : S3x1024.Idx → EReal) (ix2 k l) = (m ((c.tc : Thread nD τ).loc main_arg12) : S2x3x1024.Idx → EReal) (ix3 1 k l) := by
  refine Eq.trans (b := (V m c main_v11 : S3x1024.Idx → EReal) (ix2 k l)) (by blk_ext [iblk, whole12 t]) ?_
  unfold V
  after_reads_at

/-- The grid point of a token, and the token's place in its block. -/
def point (r : Fin 32768) : Fin cfg0.N := ⟨r.val / 512, (show r.val / 512 < 64 by omega).trans_eq (by decide)⟩
def spot (r : Fin 32768) : Fin 512 := ⟨r.val % 512, by omega⟩

theorem back (r : Fin 32768) : (point r).val * 512 + (spot r).val = r.val := by
  show r.val / 512 * 512 + r.val % 512 = r.val
  omega

theorem token_back (r : Fin 512) (h : 512 * t.val + r.val < 32768) :
    tokenIn (iblk m c 5 t) (iblk m c 3 t) (iblk m c 2 t) (iblk m c 4 t) (iblk m c 0 t) (iblk m c 1 t) r = tokenOf m c ⟨512 * t.val + r.val, h⟩ := by
  unfold tokenIn tokenOf token
  simp only [read0 m c t r _ h, read1 m c t r _ h, read2 m c t r _ h, read3 m c t r _ h, read4 m c t r _ h, read5 m c t r _ h]

theorem weights_back :
    weightsIn (iblk m c 6 t) (iblk m c 7 t) (iblk m c 8 t) (iblk m c 12 t) (iblk m c 9 t) (iblk m c 10 t) (iblk m c 11 t) (iblk m c 13 t) (iblk m c 14 t) = weightsOf m c := by
  unfold weightsIn weightsOf weights
  simp only [read6, read7, read8, read9, read10, read11, read12, read13, read14]

/-- What a point stores. -/
theorem stored (r : Fin 512) (l : Fin 1024) (h : 512 * t.val + r.val < 32768) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r l)
      = result (tokenOf m c ⟨512 * t.val + r.val, h⟩) (weightsOf m c) l := by
  unfold out0_15
  frame_out
  rw [← token_back m c t r h, ← weights_back m c t]
  exact payload_at _ _ _ _ _ _ _ _ _ _ _ _ _ _ _ r l

/-- The result, entry by entry. -/
theorem final (r : Fin 32768) (l : Fin 1024) :
    ((dats m 0 c).arrAt 15 cfg0.N : S32768x1024.Idx → EReal) (ix2 r l) = result (tokenOf m c r) (weightsOf m c) l := by
  have hb := back r
  have h := congrFun (Value.blocks15 m c (point r) (flush15 _)) (ix2 (spot r) l)
  rw [Value.flushed15] at h
  refine Eq.trans ?_ (h.trans ?_)
  · symm
    blk_ext [rows15 (point r)]
    all_goals exact back r
  · refine (stored m c (point r) (spot r) l (by omega)).trans ?_
    congr 2
    exact Fin.ext (by show 512 * (point r).val + (spot r).val = r.val; omega)

end Cert.NextMerge
end
end
-- ==== Proof.NextMergeRef.lean ====
module
public import proofs.«01_k».proof.Defs
public import Idealize.ShloMosaic.Lib.Quiescent
public import proofs.«01_k».proof.Proof.NextMergeValue
public import proofs.«01_k».proof.Proof.Gen.Reference6Ideal.Run
@[expose] public section

/-! The second layer's merge: the reference's result is the kernel's. -/

set_option maxRecDepth 16384
noncomputable section
namespace Cert.NextMerge
open Idealize.ShloMosaic Idealize.SL.Sem

theorem reference_frame : Cert.quiescent_Reference6Ideal (hReference6Ideal := Cert.Reference6Ideal.Gen.facts) := fun m ρ _ =>
  (θ_run _ _ _).mono (fun r h => ⟨fun c => (h c).2, sem_eq_zero_of_no_sems (by decide) r.2⟩) (Cert.Reference6Ideal.Value.run m ρ)

/-- The Gaussian unit with its half on the second factor. -/
theorem gelu_factor (y : EReal) :
    y * (Ideal.ofBits FTy.f32 0x3F000000#32 * (1 + Ideal.tanh (Ideal.ofBits FTy.f32 0x3F4C422A#32 * (y + Ideal.ofBits FTy.f32 0x3D372713#32 * (y * y * y)))))
      = gelu y := by
  unfold gelu bell
  rw [← mul_assoc, mul_comm y]

open Cert.Reference6Ideal in
/-- The reference's result for a token. -/
theorem reference_at (m : (ℓ : Loc nD τ sig) → Buf (Elt Ideal) ℓ) (c : Dev nD) (r : Fin 32768) (l : Fin 1024) :
    (Value.res_main_v114 m c : S32768x1024.Idx → EReal) (ix2 r l)
      = result (token (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) r)
        (weights (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))) l := by
  pointwise [Value.res_main_v114]
  simp only [gelu_factor]
  rfl

theorem algebraic : Cert.algebraic_Kernel6Ideal_Reference6Ideal (hKernel6Ideal := Cert.Kernel6Ideal.Gen.facts) (hReference6Ideal := Cert.Reference6Ideal.Gen.facts) :=
  fun m g m' g' _ hag => ⟨fun c => (Cert.Kernel6Ideal.Gen.dats m 0 c).arrAt 15 Cert.Kernel6Ideal.cfg0.N, Cert.Kernel6Ideal.Value.run_blocks m g,
    (θ_run _ _ _).mono (fun r h c => ⟨(h c).1.trans (by
      obtain ⟨h0, h1, h2, h3, h4, h5, h6, h7, h8, h9, h10, h11, h12, h13, h14⟩ := hag c
      refine funext fun i => ?_
      rw [Cert.NextProj.two_coords i]
      refine (reference_at m' c _ _).trans (Eq.trans ?_ (final m c _ _).symm)
      unfold tokenOf weightsOf
      rw [h0, h1, h2, h3, h4, h5, h6, h7, h8, h9, h10, h11, h12, h13, h14]), (h c).2⟩) (Cert.Reference6Ideal.Value.run m' g')⟩

end Cert.NextMerge
end
end
-- ==== Proof.lean ====
/- The retention, as the kernel computes it and as its mathematics says it: the kernel keeps its arguments, and on
   ideal arithmetic its result is the reference's. Both are the output of one description (`feed`, RetSpec.lean): the
   kernel's by RetFold.lean, the reference's by RefValue.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Adequacy
public import Idealize.ShloMosaic.Init
public import Idealize.ShloMosaic.Lib.Quiescent
public import proofs.«01_k».proof.Proof.Gen.KernelIdeal.Value
public import proofs.«01_k».proof.Proof.Gen.ReferenceIdeal.Run
public import proofs.«01_k».proof.Proof.Gen.ReferenceIdeal.Step
public import proofs.«01_k».proof.Proof.RetFold
public import proofs.«01_k».proof.Proof.RefValue
public import proofs.«01_k».proof.Proof.ProjRef
public import proofs.«01_k».proof.Proof.MergeRef
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.NextProjRef
public import proofs.«01_k».proof.Proof.NextMergeRef
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run

@[expose] public section

noncomputable section

namespace Cert.Proof

open Idealize.ShloMosaic Idealize.SL.Sem

/-- The reference keeps its argument, and, having no semaphore, leaves every counter at zero. -/
theorem reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.RefLoop.run_states m ρ)

/-- On equal arguments the two results are one array. -/
theorem results_eq (m : (ℓ : Loc Cert.KernelIdeal.nD Cert.KernelIdeal.τ Cert.KernelIdeal.sig) → Buf (Elt Ideal) ℓ) (c : Dev Cert.KernelIdeal.nD) :
    Cert.ReferenceIdeal.Step.R_main_v152 (Cert.RefLoop.states (Cert.Ret.given m c) 16) (Cert.Ret.given m c) = Cert.KernelIdeal.Value.G9 m c := by
  funext i
  obtain ⟨r, l, rfl⟩ : ∃ (r : Fin 32768) (l : Fin 512), i = ix2 r l := ⟨i 0, i 1, by
    funext a
    match a with
    | 0 => rfl
    | 1 => rfl⟩
  exact (Cert.Ret.reference_at (Cert.Ret.given m c) r l).trans (Cert.Ret.result_at m c r l).symm

theorem algebraic : Cert.algebraic_KernelIdeal_ReferenceIdeal (hKernelIdeal := Cert.KernelIdeal.Gen.facts) (hReferenceIdeal := Cert.ReferenceIdeal.Gen.facts) :=
  fun m g m' g' _ hag => ⟨fun c => Cert.KernelIdeal.Value.G9 m c, Cert.KernelIdeal.Value.run m g,
    (θ_run _ _ _).mono (fun r h c => ⟨(h c).1.trans (by rw [hag c]; exact results_eq m c), (h c).2⟩) (Cert.RefLoop.run_states m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, Cert.Proj.reference_frame,
  fun m ρ _ => Cert.Kernel3.Gen.frame m ρ, fun m ρ _ => Cert.Kernel3Ideal.Gen.frame m ρ, Cert.Merge.reference_frame,
  fun m ρ _ => Cert.Kernel4.Gen.frame m ρ, fun m ρ _ => Cert.Kernel4Ideal.Gen.frame m ρ,
  fun m ρ _ => Cert.Kernel5.Gen.frame m ρ, fun m ρ _ => Cert.Kernel5Ideal.Gen.frame m ρ, Cert.NextProj.reference_frame,
  fun m ρ _ => Cert.Kernel6.Gen.frame m ρ, fun m ρ _ => Cert.Kernel6Ideal.Gen.frame m ρ, Cert.NextMerge.reference_frame,
  trivial, algebraic, trivial, Cert.Proj.algebraic, trivial, Cert.Merge.algebraic, trivial,
  trivial, Cert.NextProj.algebraic, trivial, Cert.NextMerge.algebraic⟩

end Cert.Proof

end
